-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_tag_present_and_finite [hPre_some_tag_present_and_finite : Cert.Pre_some_tag_present_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.2.2.2.1 = (fun _ => 1#1)
    ∧ (Cert.Pre_some_tag_present_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_tag_present_and_finite [hPre_some_tag_present_and_finite : Cert.Pre_some_tag_present_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.2.2.2.1 = (fun _ => 1#1)
    ∧ (Cert.Pre_some_tag_present_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_some_tag_present_and_finite [hKernelIdeal : Cert.KernelIdeal.Facts] [hPre_some_tag_present_and_finite : Cert.Pre_some_tag_present_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_tag_present_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_some_tag_present_and_finite [hReferenceIdeal : Cert.ReferenceIdeal.Facts] [hPre_some_tag_present_and_finite : Cert.Pre_some_tag_present_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_tag_present_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xCE6E6B28#32 ⊥

def algebraic_KernelIdeal_ReferenceIdeal_pre_some_tag_present_and_finite [hKernelIdeal : Cert.KernelIdeal.Facts] [hReferenceIdeal : Cert.ReferenceIdeal.Facts] [hPre_some_tag_present_and_finite : Cert.Pre_some_tag_present_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_tag_present_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_some_tag_present_and_finite : Cert.Pre_some_tag_present_and_finite.Facts),
    quiescent_Kernel (hKernel := hKernel)
    ∧ quiescent_KernelIdeal (hKernelIdeal := hKernelIdeal)
    ∧ quiescent_KernelIdeal_pre_some_tag_present_and_finite (hKernelIdeal := hKernelIdeal) (hPre_some_tag_present_and_finite := hPre_some_tag_present_and_finite)
    ∧ quiescent_ReferenceIdeal (hReferenceIdeal := hReferenceIdeal)
    ∧ quiescent_ReferenceIdeal_pre_some_tag_present_and_finite (hReferenceIdeal := hReferenceIdeal) (hPre_some_tag_present_and_finite := hPre_some_tag_present_and_finite)
    ∧ preserves_Kernel_KernelIdeal
    ∧ algebraic_KernelIdeal_ReferenceIdeal_pre_some_tag_present_and_finite (hKernelIdeal := hKernelIdeal) (hReferenceIdeal := hReferenceIdeal) (hPre_some_tag_present_and_finite := hPre_some_tag_present_and_finite)
-- ==== Pre_some_tag_present_and_finite.lean ====
abbrev S8x2048x5 : Shape := ⟨3, ![8, 2048, 5]⟩
abbrev S8x2048 : Shape := ⟨2, ![8, 2048]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x3 : Shape := ⟨2, ![64, 3]⟩
abbrev S3 : Shape := ⟨1, ![3]⟩
abbrev S64x6 : Shape := ⟨2, ![64, 6]⟩
abbrev S6 : Shape := ⟨1, ![6]⟩
abbrev S_ : Shape := ⟨0, ![]⟩
abbrev S8 : Shape := ⟨1, ![8]⟩

class Facts : Prop where
  bcast_S_S8x2048 : S_.BroadcastsInDim S8x2048 (![] : Fin 0 → Fin S8x2048.rank)
  reducesTo_S8x2048_S8_d1 : S8x2048.ReducesTo [1] S8
  h_S_ : 0 < S_.numel
  bcast_S_S8x2048x5 : S_.BroadcastsInDim S8x2048x5 (![] : Fin 0 → Fin S8x2048x5.rank)
  bcast_S_S5x64 : S_.BroadcastsInDim S5x64 (![] : Fin 0 → Fin S5x64.rank)
  bcast_S_S64 : S_.BroadcastsInDim S64 (![] : Fin 0 → Fin S64.rank)
  bcast_S_S64x64 : S_.BroadcastsInDim S64x64 (![] : Fin 0 → Fin S64x64.rank)
  bcast_S_S64x32 : S_.BroadcastsInDim S64x32 (![] : Fin 0 → Fin S64x32.rank)
  bcast_S_S32 : S_.BroadcastsInDim S32 (![] : Fin 0 → Fin S32.rank)
  bcast_S_S32x1 : S_.BroadcastsInDim S32x1 (![] : Fin 0 → Fin S32x1.rank)
  bcast_S_S1 : S_.BroadcastsInDim S1 (![] : Fin 0 → Fin S1.rank)

variable [Facts]

def fn_part3 {F : FTy → Type} [FloatOps F] (main_arg17 : FVec F S32 .f32) (main_arg18 : FVec F S32x1 .f32) (main_arg19 : FVec F S1 .f32) (main_v5 : IVec S8 1) (main_v8 : IVec S8x2048x5 1) (main_v11 : IVec S5x64 1) (main_v14 : IVec S64 1) (main_v17 : IVec S64x64 1) (main_v20 : IVec S64 1) (main_v23 : IVec S64x64 1) (main_v26 : IVec S64 1) (main_v29 : IVec S64x64 1) (main_v32 : IVec S64 1) (main_v35 : IVec S64x64 1) (main_v38 : IVec S64 1) (main_v41 : IVec S64x32 1) (main_v44 : IVec S32 1) (main_v47 : IVec S32x1 1) (main_v50 : IVec S1 1) (main_v51 : FVec F S64x32 .f32) (main_v52 : FVec F S64x32 .f32) : IVec S8 1 × IVec S8x2048x5 1 × IVec S5x64 1 × IVec S64 1 × IVec S64x64 1 × IVec S64 1 × IVec S64x64 1 × IVec S64 1 × IVec S64x64 1 × IVec S64 1 × IVec S64x64 1 × IVec S64 1 × IVec S64x32 1 × IVec S32 1 × IVec S32x1 1 × IVec S1 1 × IVec S64x32 1 × IVec S32 1 × IVec S32x1 1 × IVec S1 1 :=
  let main_v53 : IVec S64x32 1 := cmpf .olt main_v51 main_v52
  let main_v54 : FVec F S32 .f32 := Host.absf main_arg17
  let main_cst_17 : FVec F S_ .f32 := constant S_ .f32 0x7F800000#32
  let main_v55 : FVec F S32 .f32 := broadcastInDim S32 ![] bcast_S_S32 main_cst_17
  let main_v56 : IVec S32 1 := cmpf .olt main_v54 main_v55
  let main_v57 : FVec F S32x1 .f32 := Host.absf main_arg18
  let main_cst_18 : FVec F S_ .f32 := constant S_ .f32 0x7F800000#32
  let main_v58 : FVec F S32x1 .f32 := broadcastInDim S32x1 ![] bcast_S_S32x1 main_cst_18
  let main_v59 : IVec S32x1 1 := cmpf .olt main_v57 main_v58
  let main_v60 : FVec F S1 .f32 := Host.absf main_arg19
  let main_cst_19 : FVec F S_ .f32 := constant S_ .f32 0x7F800000#32
  let main_v61 : FVec F S1 .f32 := broadcastInDim S1 ![] bcast_S_S1 main_cst_19
  let main_v62 : IVec S1 1 := cmpf .olt main_v60 main_v61
  (main_v5, main_v8, main_v11, main_v14, main_v17, main_v20, main_v23, main_v26, main_v29, main_v32, main_v35, main_v38, main_v41, main_v44, main_v47, main_v50, main_v53, main_v56, main_v59, main_v62)

def fn_part2 {F : FTy → Type} [FloatOps F] (main_arg11 : FVec F S64 .f32) (main_arg12 : FVec F S64x32 .f32) (main_arg13 : FVec F S32 .f32) (main_arg14 : FVec F S32x1 .f32) (main_arg15 : FVec F S1 .f32) (main_arg16 : FVec F S64x32 .f32) (main_arg17 : FVec F S32 .f32) (main_arg18 : FVec F S32x1 .f32) (main_arg19 : FVec F S1 .f32) (main_v5 : IVec S8 1) (main_v8 : IVec S8x2048x5 1) (main_v11 : IVec S5x64 1) (main_v14 : IVec S64 1) (main_v17 : IVec S64x64 1) (main_v20 : IVec S64 1) (main_v23 : IVec S64x64 1) (main_v26 : IVec S64 1) (main_v29 : IVec S64x64 1) (main_v32 : IVec S64 1) (main_v33 : FVec F S64x64 .f32) (main_v34 : FVec F S64x64 .f32) : IVec S8 1 × IVec S8x2048x5 1 × IVec S5x64 1 × IVec S64 1 × IVec S64x64 1 × IVec S64 1 × IVec S64x64 1 × IVec S64 1 × IVec S64x64 1 × IVec S64 1 × IVec S64x64 1 × IVec S64 1 × IVec S64x32 1 × IVec S32 1 × IVec S32x1 1 × IVec S1 1 × IVec S64x32 1 × IVec S32 1 × IVec S32x1 1 × IVec S1 1 :=
  let main_v35 : IVec S64x64 1 := cmpf .olt main_v33 main_v34
  let main_v36 : FVec F S64 .f32 := Host.absf main_arg11
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  let main_v39 : FVec F S64x32 .f32 := Host.absf main_arg12
  let main_cst_12 : FVec F S_ .f32 := constant S_ .f32 0x7F800000#32
  let main_v40 : FVec F S64x32 .f32 := broadcastInDim S64x32 ![] bcast_S_S64x32 main_cst_12
  let main_v41 : IVec S64x32 1 := cmpf .olt main_v39 main_v40
  let main_v42 : FVec F S32 .f32 := Host.absf main_arg13
  let main_cst_13 : FVec F S_ .f32 := constant S_ .f32 0x7F800000#32
  let main_v43 : FVec F S32 .f32 := broadcastInDim S32 ![] bcast_S_S32 main_cst_13
  let main_v44 : IVec S32 1 := cmpf .olt main_v42 main_v43
  let main_v45 : FVec F S32x1 .f32 := Host.absf main_arg14
  let main_cst_14 : FVec F S_ .f32 := constant S_ .f32 0x7F800000#32
  let main_v46 : FVec F S32x1 .f32 := broadcastInDim S32x1 ![] bcast_S_S32x1 main_cst_14
  let main_v47 : IVec S32x1 1 := cmpf .olt main_v45 main_v46
  let main_v48 : FVec F S1 .f32 := Host.absf main_arg15
  let main_cst_15 : FVec F S_ .f32 := constant S_ .f32 0x7F800000#32
  let main_v49 : FVec F S1 .f32 := broadcastInDim S1 ![] bcast_S_S1 main_cst_15
  let main_v50 : IVec S1 1 := cmpf .olt main_v48 main_v49
  let main_v51 : FVec F S64x32 .f32 := Host.absf main_arg16
  let main_cst_16 : FVec F S_ .f32 := constant S_ .f32 0x7F800000#32
  let main_v52 : FVec F S64x32 .f32 := broadcastInDim S64x32 ![] bcast_S_S64x32 main_cst_16
  fn_part3 (F := F) main_arg17 main_arg18 main_arg19 main_v5 main_v8 main_v11 main_v14 main_v17 main_v20 main_v23 main_v26 main_v29 main_v32 main_v35 main_v38 main_v41 main_v44 main_v47 main_v50 main_v51 main_v52

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) (main_arg14 : FVec F S32x1 .f32) (main_arg15 : FVec F S1 .f32) (main_arg16 : FVec F S64x32 .f32) (main_arg17 : FVec F S32 .f32) (main_arg18 : FVec F S32x1 .f32) (main_arg19 : FVec F S1 .f32) (main_v5 : IVec S8 1) (main_v8 : IVec S8x2048x5 1) (main_v11 : IVec S5x64 1) (main_v14 : IVec S64 1) (main_v15 : FVec F S64x64 .f32) (main_v16 : FVec F S64x64 .f32) : IVec S8 1 × IVec S8x2048x5 1 × IVec S5x64 1 × IVec S64 1 × IVec S64x64 1 × IVec S64 1 × IVec S64x64 1 × IVec S64 1 × IVec S64x64 1 × IVec S64 1 × IVec S64x64 1 × IVec S64 1 × IVec S64x32 1 × IVec S32 1 × IVec S32x1 1 × IVec S1 1 × IVec S64x32 1 × IVec S32 1 × IVec S32x1 1 × IVec S1 1 :=
  let main_v17 : IVec S64x64 1 := cmpf .olt main_v15 main_v16
  let main_v18 : FVec F S64 .f32 := Host.absf main_arg5
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x64 .f32 := Host.absf main_arg6
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64 .f32 := Host.absf main_arg7
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64x64 .f32 := Host.absf main_arg8
  let main_cst_8 : FVec F S_ .f32 := constant S_ .f32 0x7F800000#32
  let main_v28 : FVec F S64x64 .f32 := broadcastInDim S64x64 ![] bcast_S_S64x64 main_cst_8
  let main_v29 : IVec S64x64 1 := cmpf .olt main_v27 main_v28
  let main_v30 : FVec F S64 .f32 := Host.absf main_arg9
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  let main_v33 : FVec F S64x64 .f32 := Host.absf main_arg10
  let main_cst_10 : FVec F S_ .f32 := constant S_ .f32 0x7F800000#32
  let main_v34 : FVec F S64x64 .f32 := broadcastInDim S64x64 ![] bcast_S_S64x64 main_cst_10
  fn_part2 (F := F) main_arg11 main_arg12 main_arg13 main_arg14 main_arg15 main_arg16 main_arg17 main_arg18 main_arg19 main_v5 main_v8 main_v11 main_v14 main_v17 main_v20 main_v23 main_v26 main_v29 main_v32 main_v33 main_v34

def fn {F : FTy → Type} [FloatOps F] (main_arg0 : FVec F S8x2048x5 .f32) (main_arg1 : IVec S8x2048 32) (main_arg2 : FVec F S5x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) (main_arg14 : FVec F S32x1 .f32) (main_arg15 : FVec F S1 .f32) (main_arg16 : FVec F S64x32 .f32) (main_arg17 : FVec F S32 .f32) (main_arg18 : FVec F S32x1 .f32) (main_arg19 : FVec F S1 .f32) (main_arg20 : FVec F S64x3 .f32) (main_arg21 : FVec F S3 .f32) (main_arg22 : FVec F S64x6 .f32) (main_arg23 : FVec F S6 .f32) : IVec S8 1 × IVec S8x2048x5 1 × IVec S5x64 1 × IVec S64 1 × IVec S64x64 1 × IVec S64 1 × IVec S64x64 1 × IVec S64 1 × IVec S64x64 1 × IVec S64 1 × IVec S64x64 1 × IVec S64 1 × IVec S64x32 1 × IVec S32 1 × IVec S32x1 1 × IVec S1 1 × IVec S64x32 1 × IVec S32 1 × IVec S32x1 1 × IVec S1 1 :=
  let main_c : IVec S_ 32 := constantI S_ 32 0#32
  let main_v0 : IVec S8x2048 32 := broadcastInDim S8x2048 ![] bcast_S_S8x2048 main_c
  let main_v1 : IVec S8x2048 1 := cmpi .sge main_arg1 main_v0
  let main_c_0 : IVec S_ 32 := constantI S_ 32 64#32
  let main_v2 : IVec S8x2048 32 := broadcastInDim S8x2048 ![] bcast_S_S8x2048 main_c_0
  let main_v3 : IVec S8x2048 1 := cmpi .slt main_arg1 main_v2
  let main_v4 : IVec S8x2048 1 := andi main_v1 main_v3
  let main_c_1 : IVec S_ 1 := constantI S_ 1 0#1
  let main_v5 : IVec S8 1 := (fun x v => Host.reduce IntOp.ori x v reducesTo_S8x2048_S8_d1 h_S_) main_v4 main_c_1
  let main_v6 : FVec F S8x2048x5 .f32 := Host.absf main_arg0
  let main_cst : FVec F S_ .f32 := constant S_ .f32 0x7F800000#32
  let main_v7 : FVec F S8x2048x5 .f32 := broadcastInDim S8x2048x5 ![] bcast_S_S8x2048x5 main_cst
  let main_v8 : IVec S8x2048x5 1 := cmpf .olt main_v6 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_v12 : FVec F S64 .f32 := Host.absf main_arg3
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64 .f32 := Host.absf main_arg4
  let main_cst_4 : FVec F S_ .f32 := constant S_ .f32 0x7F800000#32
  let main_v16 : FVec F S64x64 .f32 := broadcastInDim S64x64 ![] bcast_S_S64x64 main_cst_4
  fn_part1 (F := F) main_arg5 main_arg6 main_arg7 main_arg8 main_arg9 main_arg10 main_arg11 main_arg12 main_arg13 main_arg14 main_arg15 main_arg16 main_arg17 main_arg18 main_arg19 main_v5 main_v8 main_v11 main_v14 main_v15 main_v16
-- ==== Kernel.lean ====
abbrev S8x2048x5 : Shape := ⟨3, ![8, 2048, 5]⟩
abbrev S8x2048 : Shape := ⟨2, ![8, 2048]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x3 : Shape := ⟨2, ![64, 3]⟩
abbrev S3 : Shape := ⟨1, ![3]⟩
abbrev S64x6 : Shape := ⟨2, ![64, 6]⟩
abbrev S6 : Shape := ⟨1, ![6]⟩
abbrev S8x2048x1 : Shape := ⟨3, ![8, 2048, 1]⟩
abbrev S1x64 : Shape := ⟨2, ![1, 64]⟩
abbrev S1x32 : Shape := ⟨2, ![1, 32]⟩
abbrev S1x1 : Shape := ⟨2, ![1, 1]⟩
abbrev S1x3 : Shape := ⟨2, ![1, 3]⟩
abbrev S1x6 : Shape := ⟨2, ![1, 6]⟩
abbrev S8x1x3 : Shape := ⟨3, ![8, 1, 3]⟩
abbrev S8x1x6 : Shape := ⟨3, ![8, 1, 6]⟩
abbrev S1x2048x5 : Shape := ⟨3, ![1, 2048, 5]⟩
abbrev S1x2048x1 : Shape := ⟨3, ![1, 2048, 1]⟩
abbrev S1x1x3 : Shape := ⟨3, ![1, 1, 3]⟩
abbrev S1x1x6 : Shape := ⟨3, ![1, 1, 6]⟩
abbrev S2048x5 : Shape := ⟨2, ![2048, 5]⟩
abbrev S2048x64 : Shape := ⟨2, ![2048, 64]⟩
abbrev S2048x1 : Shape := ⟨2, ![2048, 1]⟩
abbrev S2048x65 : Shape := ⟨2, ![2048, 65]⟩
abbrev S1x2048x64 : Shape := ⟨3, ![1, 2048, 64]⟩
abbrev S1x1x1 : Shape := ⟨3, ![1, 1, 1]⟩
abbrev S256x64 : Shape := ⟨2, ![256, 64]⟩
abbrev S256x2048 : Shape := ⟨2, ![256, 2048]⟩
abbrev S256x65 : Shape := ⟨2, ![256, 65]⟩
abbrev S256x1 : Shape := ⟨2, ![256, 1]⟩
abbrev S2048x32 : Shape := ⟨2, ![2048, 32]⟩
abbrev S64x1 : Shape := ⟨2, ![64, 1]⟩

abbrev nBuf : Space → Nat
  | .hbm => 38
  | .vmem => 30
  | .smem => 0
  | _ => 0

abbrev bufTy : (tb : Table) → Fin (tcTables nBuf tb) → BufTy
  | .hbm, ⟨0, _⟩ => ⟨S8x2048x5, .f32⟩
  | .hbm, ⟨1, _⟩ => ⟨S8x2048, .i32⟩
  | .hbm, ⟨2, _⟩ => ⟨S5x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S64x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S64x3, .f32⟩
  | .hbm, ⟨21, _⟩ => ⟨S3, .f32⟩
  | .hbm, ⟨22, _⟩ => ⟨S64x6, .f32⟩
  | .hbm, ⟨23, _⟩ => ⟨S6, .f32⟩
  | .hbm, ⟨24, _⟩ => ⟨S8x2048x1, .i32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x32, .f32⟩
  | .hbm, ⟨31, _⟩ => ⟨S1x1, .f32⟩
  | .hbm, ⟨32, _⟩ => ⟨S1x32, .f32⟩
  | .hbm, ⟨33, _⟩ => ⟨S1x1, .f32⟩
  | .hbm, ⟨34, _⟩ => ⟨S1x3, .f32⟩
  | .hbm, ⟨35, _⟩ => ⟨S1x6, .f32⟩
  | .hbm, ⟨36, _⟩ => ⟨S8x1x3, .f32⟩
  | .hbm, ⟨37, _⟩ => ⟨S8x1x6, .f32⟩
  | .local _ .vmem, ⟨0, _⟩ => ⟨S1x2048x5, .f32⟩
  | .local _ .vmem, ⟨1, _⟩ => ⟨S1x2048x5, .f32⟩
  | .local _ .vmem, ⟨2, _⟩ => ⟨S1x2048x1, .i32⟩
  | .local _ .vmem, ⟨3, _⟩ => ⟨S1x2048x1, .i32⟩
  | .local _ .vmem, ⟨4, _⟩ => ⟨S5x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x1, .f32⟩
  | .local _ .vmem, ⟨17, _⟩ => ⟨S1x1, .f32⟩
  | .local _ .vmem, ⟨18, _⟩ => ⟨S64x32, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S64x3, .f32⟩
  | .local _ .vmem, ⟨23, _⟩ => ⟨S1x3, .f32⟩
  | .local _ .vmem, ⟨24, _⟩ => ⟨S64x6, .f32⟩
  | .local _ .vmem, ⟨25, _⟩ => ⟨S1x6, .f32⟩
  | .local _ .vmem, ⟨26, _⟩ => ⟨S1x1x3, .f32⟩
  | .local _ .vmem, ⟨27, _⟩ => ⟨S1x1x3, .f32⟩
  | .local _ .vmem, ⟨28, _⟩ => ⟨S1x1x6, .f32⟩
  | .local _ .vmem, ⟨29, _⟩ => ⟨S1x1x6, .f32⟩
  | _, _ => ⟨S8x2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x3 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x6 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x6 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x1x3 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x6 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S8x2048x5 : Shape := ⟨3, ![8, 2048, 5]⟩
abbrev S8x2048 : Shape := ⟨2, ![8, 2048]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x3 : Shape := ⟨2, ![64, 3]⟩
abbrev S3 : Shape := ⟨1, ![3]⟩
abbrev S64x6 : Shape := ⟨2, ![64, 6]⟩
abbrev S6 : Shape := ⟨1, ![6]⟩
abbrev S8x2048x64 : Shape := ⟨3, ![8, 2048, 64]⟩
abbrev S1x1x64 : Shape := ⟨3, ![1, 1, 64]⟩
abbrev S_ : Shape := ⟨0, ![]⟩
abbrev S8x2048x2048 : Shape := ⟨3, ![8, 2048, 2048]⟩
abbrev S8x2048x1 : Shape := ⟨3, ![8, 2048, 1]⟩
abbrev S8x2048x32 : Shape := ⟨3, ![8, 2048, 32]⟩
abbrev S1x1x32 : Shape := ⟨3, ![1, 1, 32]⟩
abbrev S1x1x1 : Shape := ⟨3, ![1, 1, 1]⟩
abbrev S8x1x2048 : Shape := ⟨3, ![8, 1, 2048]⟩
abbrev S1x64x1 : Shape := ⟨3, ![1, 64, 1]⟩
abbrev S8x64x2048 : Shape := ⟨3, ![8, 64, 2048]⟩
abbrev S8x64 : Shape := ⟨2, ![8, 64]⟩
abbrev S8x64x1 : Shape := ⟨3, ![8, 64, 1]⟩
abbrev S8x64x64 : Shape := ⟨3, ![8, 64, 64]⟩
abbrev S8x64x32 : Shape := ⟨3, ![8, 64, 32]⟩
abbrev S8 : Shape := ⟨1, ![8]⟩
abbrev S8x1 : Shape := ⟨2, ![8, 1]⟩
abbrev S8x3 : Shape := ⟨2, ![8, 3]⟩
abbrev S1x3 : Shape := ⟨2, ![1, 3]⟩
abbrev S8x6 : Shape := ⟨2, ![8, 6]⟩
abbrev S1x6 : Shape := ⟨2, ![1, 6]⟩
abbrev S8x1x3 : Shape := ⟨3, ![8, 1, 3]⟩
abbrev S8x1x6 : Shape := ⟨3, ![8, 1, 6]⟩

abbrev nBuf : Space → Nat
  | .hbm => 157
  | .vmem => 0
  | .smem => 0
  | _ => 0

abbrev hbmTy0_0 (i : Nat) : BufTy := match i % 128 with
  | 0 => ⟨S8x2048x5, .f32⟩
  | 1 => ⟨S8x2048, .i32⟩
  | 2 => ⟨S5x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S64x32, .f32⟩
  | 17 => ⟨S32, .f32⟩
  | 18 => ⟨S32x1, .f32⟩
  | 19 => ⟨S1, .f32⟩
  | 20 => ⟨S64x3, .f32⟩
  | 21 => ⟨S3, .f32⟩
  | 22 => ⟨S64x6, .f32⟩
  | 23 => ⟨S6, .f32⟩
  | 24 => ⟨S8x2048x64, .f32⟩
  | 25 => ⟨S1x1x64, .f32⟩
  | 26 => ⟨S8x2048x64, .f32⟩
  | 27 => ⟨S8x2048x64, .f32⟩
  | 28 => ⟨S_, .f32⟩
  | 29 => ⟨S8x2048x64, .f32⟩
  | 30 => ⟨S8x2048x64, .f32⟩
  | 31 => ⟨S8x2048x64, .f32⟩
  | 32 => ⟨S1x1x64, .f32⟩
  | 33 => ⟨S8x2048x64, .f32⟩
  | 34 => ⟨S8x2048x64, .f32⟩
  | 35 => ⟨S_, .f32⟩
  | 36 => ⟨S8x2048x64, .f32⟩
  | 37 => ⟨S8x2048x64, .f32⟩
  | 38 => ⟨S8x2048x64, .f32⟩
  | 39 => ⟨S1x1x64, .f32⟩
  | 40 => ⟨S8x2048x64, .f32⟩
  | 41 => ⟨S8x2048x64, .f32⟩
  | 42 => ⟨S8x2048x64, .f32⟩
  | 43 => ⟨S1x1x64, .f32⟩
  | 44 => ⟨S8x2048x64, .f32⟩
  | 45 => ⟨S8x2048x64, .f32⟩
  | 46 => ⟨S8x2048x64, .f32⟩
  | 47 => ⟨S1x1x64, .f32⟩
  | 48 => ⟨S8x2048x64, .f32⟩
  | 49 => ⟨S8x2048x64, .f32⟩
  | 50 => ⟨S_, .f32⟩
  | 51 => ⟨S_, .f32⟩
  | 52 => ⟨S8x2048x2048, .f32⟩
  | 53 => ⟨S8x2048x2048, .f32⟩
  | 54 => ⟨S8x2048x2048, .f32⟩
  | 55 => ⟨S_, .f32⟩
  | 56 => ⟨S8x2048, .f32⟩
  | 57 => ⟨S_, .f32⟩
  | 58 => ⟨S8x2048, .f32⟩
  | 59 => ⟨S8x2048, .f32⟩
  | 60 => ⟨S8x2048x1, .f32⟩
  | 61 => ⟨S8x2048x2048, .f32⟩
  | 62 => ⟨S8x2048x2048, .f32⟩
  | 63 => ⟨S8x2048x2048, .f32⟩
  | 64 => ⟨S_, .f32⟩
  | 65 => ⟨S8x2048, .f32⟩
  | 66 => ⟨S8x2048x1, .f32⟩
  | 67 => ⟨S8x2048x2048, .f32⟩
  | 68 => ⟨S8x2048x2048, .f32⟩
  | 69 => ⟨S8x2048x64, .f32⟩
  | 70 => ⟨S8x2048x64, .f32⟩
  | 71 => ⟨S8x2048x32, .f32⟩
  | 72 => ⟨S1x1x32, .f32⟩
  | 73 => ⟨S8x2048x32, .f32⟩
  | 74 => ⟨S8x2048x32, .f32⟩
  | 75 => ⟨S_, .f32⟩
  | 76 => ⟨S8x2048x32, .f32⟩
  | 77 => ⟨S8x2048x32, .f32⟩
  | 78 => ⟨S8x2048x1, .f32⟩
  | 79 => ⟨S1x1x1, .f32⟩
  | 80 => ⟨S8x2048x1, .f32⟩
  | 81 => ⟨S8x2048x1, .f32⟩
  | 82 => ⟨S8x2048, .f32⟩
  | 83 => ⟨S8x1x2048, .i32⟩
  | 84 => ⟨S64, .i32⟩
  | 85 => ⟨S1x64x1, .i32⟩
  | 86 => ⟨S8x64x2048, .i32⟩
  | 87 => ⟨S8x64x2048, .i32⟩
  | 88 => ⟨S8x64x2048, .i1⟩
  | 89 => ⟨S8x1x2048, .f32⟩
  | 90 => ⟨S_, .f32⟩
  | 91 => ⟨S_, .f32⟩
  | 92 => ⟨S8x64x2048, .f32⟩
  | 93 => ⟨S8x64x2048, .f32⟩
  | 94 => ⟨S8x64x2048, .f32⟩
  | 95 => ⟨S_, .f32⟩
  | 96 => ⟨S8x64, .f32⟩
  | 97 => ⟨S_, .f32⟩
  | 98 => ⟨S8x64, .f32⟩
  | 99 => ⟨S8x64, .f32⟩
  | 100 => ⟨S8x64x1, .f32⟩
  | 101 => ⟨S8x64x2048, .f32⟩
  | 102 => ⟨S8x64x2048, .f32⟩
  | 103 => ⟨S8x64x2048, .f32⟩
  | 104 => ⟨S_, .f32⟩
  | 105 => ⟨S8x64, .f32⟩
  | 106 => ⟨S8x64x1, .f32⟩
  | 107 => ⟨S8x64x2048, .f32⟩
  | 108 => ⟨S8x64x2048, .f32⟩
  | 109 => ⟨S_, .f32⟩
  | 110 => ⟨S_, .f32⟩
  | 111 => ⟨S8x64x2048, .f32⟩
  | 112 => ⟨S8x64x2048, .f32⟩
  | 113 => ⟨S8x64x64, .f32⟩
  | 114 => ⟨S_, .i1⟩
  | 115 => ⟨S8x64, .i1⟩
  | 116 => ⟨S8x64x32, .f32⟩
  | 117 => ⟨S1x1x32, .f32⟩
  | 118 => ⟨S8x64x32, .f32⟩
  | 119 => ⟨S8x64x32, .f32⟩
  | 120 => ⟨S_, .f32⟩
  | 121 => ⟨S8x64x32, .f32⟩
  | 122 => ⟨S8x64x32, .f32⟩
  | 123 => ⟨S8x64x1, .f32⟩
  | 124 => ⟨S1x1x1, .f32⟩
  | 125 => ⟨S8x64x1, .f32⟩
  | 126 => ⟨S8x64x1, .f32⟩
  | 127 => ⟨S8x64, .f32⟩
  | _ => ⟨S8x2048x5, .f32⟩

abbrev hbmTy0_1 (i : Nat) : BufTy := match i % 128 with
  | 0 => ⟨S_, .f32⟩
  | 1 => ⟨S_, .f32⟩
  | 2 => ⟨S8x64, .f32⟩
  | 3 => ⟨S8x64, .f32⟩
  | 4 => ⟨S_, .f32⟩
  | 5 => ⟨S8, .f32⟩
  | 6 => ⟨S_, .f32⟩
  | 7 => ⟨S8, .f32⟩
  | 8 => ⟨S8, .f32⟩
  | 9 => ⟨S8x1, .f32⟩
  | 10 => ⟨S8x64, .f32⟩
  | 11 => ⟨S8x64, .f32⟩
  | 12 => ⟨S8x64, .f32⟩
  | 13 => ⟨S_, .f32⟩
  | 14 => ⟨S8, .f32⟩
  | 15 => ⟨S8x1, .f32⟩
  | 16 => ⟨S8x64, .f32⟩
  | 17 => ⟨S8x64, .f32⟩
  | 18 => ⟨S8x64, .f32⟩
  | 19 => ⟨S8x3, .f32⟩
  | 20 => ⟨S1x3, .f32⟩
  | 21 => ⟨S8x3, .f32⟩
  | 22 => ⟨S8x3, .f32⟩
  | 23 => ⟨S8x6, .f32⟩
  | 24 => ⟨S1x6, .f32⟩
  | 25 => ⟨S8x6, .f32⟩
  | 26 => ⟨S8x6, .f32⟩
  | 27 => ⟨S8x1x3, .f32⟩
  | 28 => ⟨S8x1x6, .f32⟩
  | _ => ⟨S8x2048x5, .f32⟩

abbrev hbmTy (i : Nat) : BufTy := match i / 128 with
  | 0 => hbmTy0_0 i
  | 1 => hbmTy0_1 i
  | _ => ⟨S8x2048x5, .f32⟩

abbrev bufTy : (tb : Table) → Fin (tcTables nBuf tb) → BufTy
  | .hbm, ⟨i, _⟩ => hbmTy i
  | _, _ => ⟨S8x2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v59 : Ref sig .tc := ⟨.hbm, 94, rfl⟩
abbrev main_cst_7 : Ref sig .tc := ⟨.hbm, 95, rfl⟩
abbrev main_v60 : Ref sig .tc := ⟨.hbm, 96, rfl⟩
abbrev main_cst_8 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_9 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_10 : Ref sig .tc := ⟨.hbm, 109, rfl⟩
abbrev main_call1_v0 : Ref sig .tc := ⟨.hbm, 110, rfl⟩
abbrev main_call1_v1 : Ref sig .tc := ⟨.hbm, 111, rfl⟩
abbrev main_v71 : Ref sig .tc := ⟨.hbm, 112, rfl⟩
abbrev main_v72 : Ref sig .tc := ⟨.hbm, 113, rfl⟩
abbrev main_c : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_11 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_12 : Ref sig .tc := ⟨.hbm, 128, rfl⟩
abbrev main_call2_v0 : Ref sig .tc := ⟨.hbm, 129, rfl⟩
abbrev main_call2_v1 : Ref sig .tc := ⟨.hbm, 130, rfl⟩
abbrev main_v85 : Ref sig .tc := ⟨.hbm, 131, rfl⟩
abbrev main_cst_13 : Ref sig .tc := ⟨.hbm, 132, rfl⟩
abbrev main_v86 : Ref sig .tc := ⟨.hbm, 133, rfl⟩
abbrev main_cst_14 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_15 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩

abbrev nD : Nat := 1
abbrev τ : Topo := Topo.v7x

variable {F : FTy → Type} [FloatOps F]
-- ==== Proof.Scalars.lean ====
/-
  Facts about extended reals that the proof needs and that know nothing of the programs: finite sums, products and
  quotients of real numbers stay real numbers, a maximum over finitely many values that are not +∞ is a real number as
  soon as one of them is, and the two forms of a softmax (shifted, in base e or in base 2) have one value.
-/
module

public import Idealize.ShloMosaic.Lib.Pointwise
public import Mathlib.Analysis.SpecialFunctions.Pow.Real

@[expose] public section

noncomputable section

namespace Cert.Scalars

open Idealize.ShloMosaic

variable {ι : Type} [Fintype ι] [DecidableEq ι]

/-- A finite sum of real numbers, taken in the extended reals, is the real sum. -/
theorem sum_coe (f : ι → ℝ) : (∑ i, ((f i : ℝ) : EReal)) = ((∑ i, f i : ℝ) : EReal) := by
  have key : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact key Finset.univ

/-- The quotient of two real numbers, the divisor not zero, is the real quotient. -/
theorem div_coe_coe (x y : ℝ) (hy : y ≠ 0) : Ideal.div (x : EReal) (y : EReal) = ((x / y : ℝ) : EReal) := by
  rw [Ideal.div_coe hy, ← EReal.coe_mul]
  congr 1
  ring

/-- The larger of a real number and zero is a real number. -/
theorem max_zero_coe (x : ℝ) : max (x : EReal) 0 = ((max x 0 : ℝ) : EReal) := by
  rw [← EReal.coe_zero]; exact (EReal.coe_strictMono.monotone.map_max).symm

/-- The absolute value, as the larger of a number and its opposite, of a real number is a real number. -/
theorem max_neg_coe (x : ℝ) : max (x : EReal) (-(x : EReal)) = ((max x (-x) : ℝ) : EReal) := by
  rw [← EReal.coe_neg]; exact (EReal.coe_strictMono.monotone.map_max).symm

/-- The bit pattern of −∞ denotes −∞. -/
theorem ofBits_neg_inf : Ideal.ofBits .f32 0xFF800000#32 = (⊥ : EReal) := by
  simp [Ideal.ofBits, Ideal.ieee]

/-- The bit pattern of +∞ denotes +∞. -/
theorem ofBits_inf : Ideal.ofBits .f32 0x7F800000#32 = (⊤ : EReal) := by
  simp [Ideal.ofBits, Ideal.ieee]

/-- The bit pattern `0x42800000` denotes 64. -/
theorem ofBits_64 : Ideal.ofBits .f32 0x42800000#32 = ((64 : ℝ) : EReal) := by
  simp [Ideal.ofBits, Ideal.ieee]
  norm_num [zpow_neg, zpow_natCast, ← EReal.coe_mul]

/-- The bit pattern `0x3F000000` denotes one half. -/
theorem ofBits_half : Ideal.ofBits .f32 0x3F000000#32 = ((1 / 2 : ℝ) : EReal) := by
  simp [Ideal.ofBits, Ideal.ieee]
  norm_num [zpow_neg, zpow_natCast, ← EReal.coe_mul]

/-- A maximum, started at −∞, over a finite set of values none of which is +∞ is a real number, if one of them is not −∞. -/
theorem fold_max_real {κ : Type} [DecidableEq κ] (s : Finset κ) (f : κ → EReal) (ht : ∀ i ∈ s, f i ≠ ⊤)
    (hb : ∃ i ∈ s, f i ≠ ⊥) : ∃ r : ℝ, s.fold max (⊥ : EReal) f = (r : EReal) := by
  have key : ∀ u : Finset κ, (∀ i ∈ u, f i ≠ ⊤) →
      u.fold max (⊥ : EReal) f ≠ ⊤ ∧ ((∃ i ∈ u, f i ≠ ⊥) → u.fold max (⊥ : EReal) f ≠ ⊥) := by
    intro u
    induction u using Finset.induction_on with
    | empty => intro _; simp
    | insert a u ha ih =>
      intro h
      obtain ⟨h₁, h₂⟩ := ih fun i hi => h i (Finset.mem_insert_of_mem hi)
      rw [Finset.fold_insert ha]
      refine ⟨?_, ?_⟩
      · rcases max_choice (f a) (u.fold max (⊥ : EReal) f) with e | e <;> rw [e]
        · exact h a (Finset.mem_insert_self a u)
        · exact h₁
      · rintro ⟨i, hi, hne⟩ e
        rcases Finset.mem_insert.1 hi with rfl | hi
        · exact hne (le_bot_iff.1 (e ▸ le_max_left _ _))
        · exact h₂ ⟨i, hi, hne⟩ (le_bot_iff.1 (le_trans (le_max_right (f a) _) e.le))
  obtain ⟨h₁, h₂⟩ := key s ht
  exact ⟨_, (EReal.coe_toReal h₁ (h₂ hb)).symm⟩

/-- The maximum, started at −∞, of finitely many real numbers (at least one) is a real number. -/
theorem fold_max_coe {κ : Type} [DecidableEq κ] (s : Finset κ) (f : κ → ℝ) (hs : s.Nonempty) :
    ∃ r : ℝ, s.fold max (⊥ : EReal) (fun i => (f i : EReal)) = (r : EReal) :=
  fold_max_real s _ (fun _ _ => EReal.coe_ne_top _) (hs.elim fun i hi => ⟨i, hi, EReal.coe_ne_bot _⟩)

/-- Two to a real power, through the natural exponential. -/
theorem exp2_coe_sub (x b : ℝ) :
    Ideal.exp2 ((x : EReal) - (b : EReal)) = ((Real.exp (x * Real.log 2) * Real.exp (-(b * Real.log 2)) : ℝ) : EReal) := by
  rw [← EReal.coe_sub, Ideal.exp2_coe]
  congr 1
  show (2 : ℝ) ^ (x - b) = _
  rw [Real.rpow_def_of_pos (by norm_num), ← Real.exp_add]
  congr 1
  ring

/-- The exponential of a difference of two real numbers. -/
theorem exp_coe_sub (x b : ℝ) :
    Ideal.exp ((x : EReal) - (b : EReal)) = ((Real.exp x * Real.exp (-b) : ℝ) : EReal) := by
  rw [← EReal.coe_sub, Ideal.exp_coe, ← Real.exp_add]
  congr 2

/-- A sum of exponentials over a nonempty finite set is not zero. -/
theorem sum_exp_ne_zero [Nonempty ι] (s : ι → ℝ) : (∑ i, Real.exp (s i)) ≠ 0 :=
  (Finset.sum_pos (fun i _ => Real.exp_pos (s i)) Finset.univ_nonempty).ne'

/-- The softmax-weighted mean of `v` with real scores `s`. -/
def wmean (s v : ι → ℝ) : ℝ := (∑ i, Real.exp (s i) * v i) / ∑ i, Real.exp (s i)

/-- The kernel's form of the weighted mean: powers of two of scores divided by `log 2`, shifted by ANY real number,
    the numerator and the denominator summed apart and divided once. -/
theorem wmean_pow2 [Nonempty ι] (s v : ι → ℝ) (b : ℝ) (x : ι → EReal)
    (hx : ∀ i, x i = ((s i * (Real.log 2)⁻¹ : ℝ) : EReal)) :
    Ideal.div (∑ i, Ideal.exp2 (x i - (b : EReal)) * (v i : EReal)) (∑ i, Ideal.exp2 (x i - (b : EReal)))
      = (wmean s v : EReal) := by
  have hl : Real.log 2 ≠ 0 := (Real.log_pos (by norm_num)).ne'
  have e : ∀ i, Ideal.exp2 (x i - (b : EReal)) = ((Real.exp (s i) * Real.exp (-(b * Real.log 2)) : ℝ) : EReal) := fun i => by
    rw [hx, exp2_coe_sub, mul_assoc, inv_mul_cancel₀ hl, mul_one]
  simp only [e, ← EReal.coe_mul, sum_coe]
  have hc : Real.exp (-(b * Real.log 2)) ≠ 0 := (Real.exp_pos _).ne'
  rw [← Finset.sum_mul, div_coe_coe _ _ (mul_ne_zero (sum_exp_ne_zero s) hc)]
  congr 1
  have e2 : ∀ i, Real.exp (s i) * Real.exp (-(b * Real.log 2)) * v i = Real.exp (s i) * v i * Real.exp (-(b * Real.log 2)) :=
    fun i => by ring
  simp only [e2]
  rw [← Finset.sum_mul, mul_div_mul_right _ _ hc, wmean]

/-- The reference's form of the weighted mean: exponentials of scores shifted by ANY real number, each divided by
    their sum, then the weighted sum. -/
theorem wmean_exp [Nonempty ι] (s v : ι → ℝ) (b : ℝ) :
    (∑ i, Ideal.div (Ideal.exp ((s i : EReal) - (b : EReal))) (∑ i', Ideal.exp ((s i' : EReal) - (b : EReal))) * (v i : EReal))
      = (wmean s v : EReal) := by
  have hc : Real.exp (-b) ≠ 0 := (Real.exp_pos _).ne'
  simp only [exp_coe_sub, sum_coe]
  rw [← Finset.sum_mul]
  have hd := mul_ne_zero (sum_exp_ne_zero s) hc
  simp only [div_coe_coe _ _ hd, ← EReal.coe_mul, sum_coe]
  congr 1
  have e2 : ∀ i, Real.exp (s i) * Real.exp (-b) / ((∑ i, Real.exp (s i)) * Real.exp (-b)) * v i
      = Real.exp (s i) * v i / ∑ i, Real.exp (s i) := fun i => by
    rw [mul_div_mul_right _ _ hc]; ring
  simp only [e2]
  rw [← Finset.sum_div, wmean]

/-- The sum of `v` weighted by the softmax of the scores `s` over the indices that `p` keeps, the others at weight zero. -/
def wmeanOn (p : ι → Prop) [DecidablePred p] (s v : ι → ℝ) : ℝ :=
  ∑ i, (if p i then Real.exp (s i) / ∑ i', (if p i' then Real.exp (s i') else 0) else 0) * v i

/-- The denominator of a softmax over a part that is not empty is not zero. -/
theorem sum_on_ne_zero (p : ι → Prop) [DecidablePred p] (s : ι → ℝ) (hp : ∃ i, p i) :
    (∑ i, (if p i then Real.exp (s i) else 0)) ≠ 0 := by
  obtain ⟨i, hi⟩ := hp
  refine (Finset.sum_pos' (fun i _ => ?_) ⟨i, Finset.mem_univ i, ?_⟩).ne'
  · split
    · exact (Real.exp_pos _).le
    · exact le_rfl
  · rw [if_pos hi]; exact Real.exp_pos _

/-- The maximum of real scores over the indices that `p` keeps, with −∞ elsewhere, is a real number if `p` keeps one. -/
theorem fold_max_on (p : ι → Prop) [DecidablePred p] (s : ι → ℝ) (hp : ∃ i, p i) :
    ∃ r : ℝ, Finset.univ.fold max (⊥ : EReal) (fun i => if p i then (s i : EReal) else ⊥) = (r : EReal) := by
  refine fold_max_real _ _ (fun i _ => ?_) (hp.elim fun i hi => ⟨i, Finset.mem_univ i, ?_⟩)
  · split
    · exact EReal.coe_ne_top _
    · exact bot_ne_top
  · rw [if_pos hi]; exact EReal.coe_ne_bot _

/-- The softmax mean over a part that is not empty, from the exponentials shifted by any number, with −∞ off the part; off
    the part the values may be anything. -/
theorem wmeanOn_any (p : ι → Prop) [DecidablePred p] (s v : ι → ℝ) (hp : ∃ i, p i) (b : ℝ) (V : ι → EReal)
    (hV : ∀ i, p i → V i = (v i : EReal)) :
    (∑ i, Ideal.div (Ideal.exp ((if p i then (s i : EReal) else ⊥) - (b : EReal)))
        (∑ i', Ideal.exp ((if p i' then (s i' : EReal) else ⊥) - (b : EReal))) * V i)
      = (wmeanOn p s v : EReal) := by
  have hc : Real.exp (-b) ≠ 0 := (Real.exp_pos _).ne'
  have e : ∀ i, Ideal.exp ((if p i then (s i : EReal) else ⊥) - (b : EReal))
      = (((if p i then Real.exp (s i) else 0) * Real.exp (-b) : ℝ) : EReal) := fun i => by
    by_cases h : p i
    · simp only [if_pos h]; exact exp_coe_sub _ _
    · simp only [if_neg h, EReal.bot_sub, Ideal.exp_bot, zero_mul, EReal.coe_zero]
  simp only [e, sum_coe]
  rw [← Finset.sum_mul]
  have hd := mul_ne_zero (sum_on_ne_zero p s hp) hc
  rw [wmeanOn, ← sum_coe]
  refine Finset.sum_congr rfl fun i _ => ?_
  by_cases h : p i
  · simp only [if_pos h]
    rw [hV i h, div_coe_coe _ _ hd, ← EReal.coe_mul, mul_div_mul_right _ _ hc]
  · simp only [if_neg h, zero_mul]
    rw [div_coe_coe _ _ hd, zero_div, EReal.coe_zero, zero_mul]

/-- The softmax mean over a part as a masked sum, from the exponentials shifted by any number. -/
theorem wmeanOn_exp (p : ι → Prop) [DecidablePred p] (s v : ι → ℝ) (hp : ∃ i, p i) (b : ℝ) :
    (∑ i, (if p i then Ideal.div (Ideal.exp ((if p i then (s i : EReal) else ⊥) - (b : EReal)))
        (∑ i', Ideal.exp ((if p i' then (s i' : EReal) else ⊥) - (b : EReal))) else 0) * (v i : EReal))
      = (wmeanOn p s v : EReal) := by
  rw [← wmeanOn_any p s v hp b (fun i => if p i then (v i : EReal) else 0) fun i h => if_pos h]
  refine Finset.sum_congr rfl fun i _ => ?_
  by_cases h : p i
  · simp only [if_pos h]
  · simp only [if_neg h, zero_mul, mul_zero]

/-- The softmax mean over an empty part is zero. -/
theorem wmeanOn_none (p : ι → Prop) [DecidablePred p] (s v : ι → ℝ) (hp : ¬∃ i, p i) : wmeanOn p s v = 0 :=
  Finset.sum_eq_zero fun i _ => by rw [if_neg fun h => hp ⟨i, h⟩, zero_mul]

/-- The kernel's form: powers of two of scores divided by `log 2`, −∞ in place of those not kept, shifted by ANY real
    number; each weight is the power times the mask as a number, divided by the sum of the powers. -/
theorem wmeanOn_pow2 (p : ι → Prop) [DecidablePred p] (s v : ι → ℝ) (hp : ∃ i, p i) (b : ℝ) (x : ι → EReal)
    (hx : ∀ i, x i = if p i then ((s i * (Real.log 2)⁻¹ : ℝ) : EReal) else ⊥) :
    (∑ i, Ideal.div (Ideal.exp2 (x i - (b : EReal)) * (if p i then (1 : EReal) else 0))
        (∑ i', Ideal.exp2 (x i' - (b : EReal))) * (v i : EReal))
      = (wmeanOn p s v : EReal) := by
  have hl : Real.log 2 ≠ 0 := (Real.log_pos (by norm_num)).ne'
  have hc : Real.exp (-(b * Real.log 2)) ≠ 0 := (Real.exp_pos _).ne'
  have e : ∀ i, Ideal.exp2 (x i - (b : EReal))
      = (((if p i then Real.exp (s i) else 0) * Real.exp (-(b * Real.log 2)) : ℝ) : EReal) := fun i => by
    rw [hx]
    by_cases h : p i
    · simp only [if_pos h]
      rw [exp2_coe_sub, mul_assoc, inv_mul_cancel₀ hl, mul_one]
    · simp only [if_neg h, EReal.bot_sub, Ideal.exp2_bot, zero_mul, EReal.coe_zero]
  simp only [e, sum_coe]
  rw [← Finset.sum_mul]
  have hd := mul_ne_zero (sum_on_ne_zero p s hp) hc
  rw [wmeanOn, ← sum_coe]
  refine Finset.sum_congr rfl fun i _ => ?_
  by_cases h : p i
  · simp only [if_pos h, mul_one]
    rw [div_coe_coe _ _ hd, ← EReal.coe_mul, mul_div_mul_right _ _ hc]
  · simp only [if_neg h, zero_mul, EReal.coe_zero, mul_zero]
    rw [← EReal.coe_zero, div_coe_coe _ _ hd, ← EReal.coe_mul, zero_div, zero_mul]

end Cert.Scalars

end
-- ==== Proof.Spec.lean ====
/-
  The function both programs compute for ONE batch, over the real numbers up to the pooled features and over the extended
  reals in the output heads: two layers of features per measurement, self-attention over the 2048 measurements, one softmax
  per tag over the measurements that carry it, and one softmax over the tags that some measurement carries.
-/
module

public import proofs.«01_k».proof.Proof.Scalars

@[expose] public section

noncomputable section

namespace Cert.Spec

open Idealize.ShloMosaic Cert.Scalars

/-- A dense layer: `x · w + b`, row by row. -/
def lin {n k l : ℕ} (x : Fin n → Fin k → ℝ) (w : Fin k → Fin l → ℝ) (b : Fin l → ℝ) : Fin n → Fin l → ℝ :=
  fun r c => (∑ i, x r i * w i c) + b c

/-- The larger of each entry and zero. -/
def relu {n l : ℕ} (x : Fin n → Fin l → ℝ) : Fin n → Fin l → ℝ := fun r c => max (x r c) 0

/-- The features of the measurements: two dense layers, each cut at zero. -/
def feat (x : Fin 2048 → Fin 5 → ℝ) (w1 : Fin 5 → Fin 64 → ℝ) (b1 : Fin 64 → ℝ) (w2 : Fin 64 → Fin 64 → ℝ)
    (b2 : Fin 64 → ℝ) : Fin 2048 → Fin 64 → ℝ := relu (lin (relu (lin x w1 b1)) w2 b2)

/-- The attention scores: the products of queries and keys over the root of 64. -/
def score (q k : Fin 2048 → Fin 64 → ℝ) (r j : Fin 2048) : ℝ := (∑ i, q r i * k j i) / 8

/-- The features after attention: each row plus the mean of the values weighted by the softmax of its scores. -/
def mixed (f q k v : Fin 2048 → Fin 64 → ℝ) (r : Fin 2048) (c : Fin 64) : ℝ :=
  f r c + wmean (score q k r) (fun j => v j c)

/-- The logits of `n` rows of features: a dense layer cut at zero and a dense layer of one output. -/
def ownLogit {n : ℕ} (g : Fin n → Fin 64 → ℝ) (wa : Fin 64 → Fin 32 → ℝ) (ba : Fin 32 → ℝ) (wb : Fin 32 → Fin 1 → ℝ)
    (bb : Fin 1 → ℝ) (r : Fin n) : ℝ := lin (relu (lin g wa ba)) wb bb r 0

/-- Some measurement carries the tag. -/
def Carried (tag : Fin 2048 → BitVec 32) (t : Fin 64) : Prop := ∃ r, tag r = BitVec.ofNat 32 t

instance (tag : Fin 2048 → BitVec 32) : DecidablePred (Carried tag) := fun _ => Classical.propDecidable _

/-- The features of a tag: its measurements' features weighted by the softmax of their logits within the tag. -/
def tagFeat (tag : Fin 2048 → BitVec 32) (l : Fin 2048 → ℝ) (g : Fin 2048 → Fin 64 → ℝ) (t c : Fin 64) : ℝ :=
  wmeanOn (fun r => tag r = BitVec.ofNat 32 t) l (fun r => g r c)

/-- An output head: a dense layer on the pooled features. -/
def head {n : ℕ} (p : Fin 64 → EReal) (w : Fin 64 → Fin n → EReal) (b : Fin n → EReal) (o : Fin n) : EReal :=
  (∑ c, p c * w c o) + b o

/-- The weights that act before the output heads, as real numbers. -/
structure Weights where
  /-- The first feature layer. -/
  w1 : Fin 5 → Fin 64 → ℝ
  /-- Its bias. -/
  b1 : Fin 64 → ℝ
  /-- The second feature layer. -/
  w2 : Fin 64 → Fin 64 → ℝ
  /-- Its bias. -/
  b2 : Fin 64 → ℝ
  /-- The queries' layer. -/
  wq : Fin 64 → Fin 64 → ℝ
  /-- Its bias. -/
  bq : Fin 64 → ℝ
  /-- The keys' layer. -/
  wk : Fin 64 → Fin 64 → ℝ
  /-- Its bias. -/
  bk : Fin 64 → ℝ
  /-- The values' layer. -/
  wv : Fin 64 → Fin 64 → ℝ
  /-- Its bias. -/
  bv : Fin 64 → ℝ
  /-- The first layer of the measurements' own logits. -/
  wa : Fin 64 → Fin 32 → ℝ
  /-- Its bias. -/
  ba : Fin 32 → ℝ
  /-- The second layer of the measurements' own logits. -/
  wb : Fin 32 → Fin 1 → ℝ
  /-- Its bias. -/
  bb : Fin 1 → ℝ
  /-- The first layer of the tags' logits. -/
  wc : Fin 64 → Fin 32 → ℝ
  /-- Its bias. -/
  bc : Fin 32 → ℝ
  /-- The second layer of the tags' logits. -/
  wd : Fin 32 → Fin 1 → ℝ
  /-- Its bias. -/
  bd : Fin 1 → ℝ

/-- The features of one batch's measurements. -/
def feats (P : Weights) (x : Fin 2048 → Fin 5 → ℝ) : Fin 2048 → Fin 64 → ℝ := feat x P.w1 P.b1 P.w2 P.b2

/-- The features of one batch's measurements after attention. -/
def attended (P : Weights) (x : Fin 2048 → Fin 5 → ℝ) : Fin 2048 → Fin 64 → ℝ :=
  mixed (feats P x) (lin (feats P x) P.wq P.bq) (lin (feats P x) P.wk P.bk) (lin (feats P x) P.wv P.bv)

/-- The logits of one batch's measurements. -/
def logits (P : Weights) (x : Fin 2048 → Fin 5 → ℝ) : Fin 2048 → ℝ := ownLogit (attended P x) P.wa P.ba P.wb P.bb

/-- The features of one batch's tags; zero for a tag that no measurement carries. -/
def tags (P : Weights) (x : Fin 2048 → Fin 5 → ℝ) (tag : Fin 2048 → BitVec 32) : Fin 64 → Fin 64 → ℝ :=
  tagFeat tag (logits P x) (attended P x)

/-- The logits of one batch's tags. -/
def tagLogits (P : Weights) (x : Fin 2048 → Fin 5 → ℝ) (tag : Fin 2048 → BitVec 32) : Fin 64 → ℝ :=
  ownLogit (tags P x tag) P.wc P.bc P.wd P.bd

/-- One batch's pooled features: the features of the carried tags weighted by the softmax of their logits. -/
def pooled (P : Weights) (x : Fin 2048 → Fin 5 → ℝ) (tag : Fin 2048 → BitVec 32) (c : Fin 64) : ℝ :=
  wmeanOn (Carried tag) (tagLogits P x tag) (fun t => tags P x tag t c)

/-- One batch's output, by one head. -/
def output {n : ℕ} (P : Weights) (x : Fin 2048 → Fin 5 → ℝ) (tag : Fin 2048 → BitVec 32) (w : Fin 64 → Fin n → EReal)
    (b : Fin n → EReal) (o : Fin n) : EReal :=
  head (fun c => (pooled P x tag c : EReal)) w b o

end Cert.Spec

end
-- ==== Proof.BlockFeat.lean ====
/-
  What one block of the kernel computes up to the attention: features, queries, keys, values and the bound that shifts
  the scores, each read at an index, the block's inputs being real numbers.
-/
module

public import proofs.«01_k».proof.Proof.Spec
public import proofs.«01_k».proof.Proof.Gen.KernelIdeal.Skeleton

@[expose] public section

set_option maxRecDepth 16384

noncomputable section

namespace Cert.BlockFeat

open Idealize.ShloMosaic Idealize.ShloMosaic.TcCoe Idealize.SL.Sem
open Cert.KernelIdeal Cert.KernelIdeal.Gen Cert.Scalars Cert.Spec

/-- The constant of the queries denotes `(1 / 8) · (log 2)⁻¹`. -/
theorem named_scale : Named.named (F := Ideal) Cert.KernelIdeal.κ "scale" (φ := .f32) 0x3E38AA3B#32
    = (((1 / 8) * (Real.log 2)⁻¹ : ℝ) : EReal) := IdealRules.named_const.ideal_named_scalar _ _ _ _ rfl

/-- The constant of the measurements' logits denotes `(log 2)⁻¹`. -/
theorem named_log2e : Named.named (F := Ideal) Cert.KernelIdeal.κ "log2e" (φ := .f32) 0x3FB8AA3B#32
    = (((Real.log 2)⁻¹ : ℝ) : EReal) := IdealRules.named_const.ideal_named_scalar _ _ _ _ rfl

/-- The constant that masks a logit denotes −∞. -/
theorem named_mask : Named.named (F := Ideal) Cert.KernelIdeal.κ "mask" (φ := .f32) 0xCE6E6B28#32
    = (⊥ : EReal) := IdealRules.named_const.ideal_named_scalar _ _ _ _ rfl

section
variable (x0 : FVec Ideal S1x2048x5 .f32) (x2 : FVec Ideal S5x64 .f32) (x3 : FVec Ideal S1x64 .f32)
  (x4 : FVec Ideal S64x64 .f32) (x5 : FVec Ideal S1x64 .f32)
  (X : Fin 2048 → Fin 5 → ℝ) (W1 : Fin 5 → Fin 64 → ℝ) (B1 : Fin 64 → ℝ) (W2 : Fin 64 → Fin 64 → ℝ) (B2 : Fin 64 → ℝ)
  (h0 : ∀ r i, x0 (ix3 0 r i) = (X r i : EReal)) (h2 : ∀ i c, x2 (ix2 i c) = (W1 i c : EReal))
  (h3 : ∀ c, x3 (ix2 0 c) = (B1 c : EReal)) (h4 : ∀ i c, x4 (ix2 i c) = (W2 i c : EReal))
  (h5 : ∀ c, x5 (ix2 0 c) = (B2 c : EReal))
include h0 h2 h3 h4 h5

/-- The block's features are the real features. -/
theorem feat_at (r : Fin 2048) (c : Fin 64) :
    k0_pay4 (F := Ideal) x0 x2 x3 x4 x5 (ix2 r c) = (feat X W1 B1 W2 B2 r c : EReal) := by
  pointwise [k0_pay4, h0, h2, h3, h4, h5]
  simp only [← EReal.coe_mul, sum_coe, ← EReal.coe_add, max_zero_coe]
  rfl

/-- The block's queries are the real queries times `(1 / 8) · (log 2)⁻¹`. -/
theorem query_at (x6 : FVec Ideal S64x64 .f32) (x7 : FVec Ideal S1x64 .f32) (W : Fin 64 → Fin 64 → ℝ) (B : Fin 64 → ℝ)
    (h6 : ∀ i c, x6 (ix2 i c) = (W i c : EReal)) (h7 : ∀ c, x7 (ix2 0 c) = (B c : EReal)) (r : Fin 2048) (c : Fin 64) :
    k0_pay5 (F := Ideal) x0 x2 x3 x4 x5 x6 x7 (ix2 r c)
      = ((lin (feat X W1 B1 W2 B2) W B r c * ((1 / 8) * (Real.log 2)⁻¹) : ℝ) : EReal) := by
  have hf := feat_at x0 x2 x3 x4 x5 X W1 B1 W2 B2 h0 h2 h3 h4 h5
  pointwise [k0_pay5, hf, h6, h7, named_scale]
  simp only [← EReal.coe_mul, sum_coe, ← EReal.coe_add]
  congr 1
  simp only [lin, add_mul, Finset.sum_mul, mul_assoc]

/-- The block's keys are the real keys. -/
theorem key_at (x8 : FVec Ideal S64x64 .f32) (x9 : FVec Ideal S1x64 .f32) (W : Fin 64 → Fin 64 → ℝ) (B : Fin 64 → ℝ)
    (h8 : ∀ i c, x8 (ix2 i c) = (W i c : EReal)) (h9 : ∀ c, x9 (ix2 0 c) = (B c : EReal)) (r : Fin 2048) (c : Fin 64) :
    k0_pay8 (F := Ideal) (k0_pay6 x0 x2 x3 x4 x5 x8) (k0_pay7 x9) (ix2 r c)
      = (lin (feat X W1 B1 W2 B2) W B r c : EReal) := by
  have hf := feat_at x0 x2 x3 x4 x5 X W1 B1 W2 B2 h0 h2 h3 h4 h5
  pointwise [k0_pay8, k0_pay6, k0_pay7, hf, h8, h9]
  simp only [← EReal.coe_mul, sum_coe, ← EReal.coe_add]
  rfl

end

/-- The values with a column of ones beside them: column `c < 64` is the real values, column 64 is one. -/
theorem value_at (v17 : FVec Ideal S2048x64 .f32) (x10 : FVec Ideal S64x64 .f32) (x11 : FVec Ideal S1x64 .f32)
    (f : Fin 2048 → Fin 64 → ℝ) (W : Fin 64 → Fin 64 → ℝ) (B : Fin 64 → ℝ)
    (hf : ∀ r i, v17 (ix2 r i) = (f r i : EReal))
    (h10 : ∀ i c, x10 (ix2 i c) = (W i c : EReal)) (h11 : ∀ c, x11 (ix2 0 c) = (B c : EReal)) (r : Fin 2048) (c : Fin 65) :
    k0_pay12 (F := Ideal) v17 x10 x11 (ix2 r c)
      = if h : (c : ℕ) < 64 then (lin f W B r ⟨c, h⟩ : EReal) else 1 := by
  pointwise [k0_pay12, hf, h10, h11]
  by_cases h : (c : ℕ) < 64
  · simp only [dif_pos h, ← EReal.coe_mul, sum_coe, ← EReal.coe_add]
    rfl
  · simp only [dif_neg h]

/-- The maximum over a whole block, as the kernel takes it. -/
def blockMax (v : FVec Ideal S2048x64 .f32) : FVec Ideal S1 .f32 :=
  multiReduction (F := Ideal) .maximumf [1, 2] S1 (shapeCast S1x2048x64 v shapeCasts_S2048x64_S1x2048x64) 0xFF800000#32
    reduces_S1x2048x64_S1 (.inl rfl) rfl

/-- The maximum over a whole block of real numbers is a real number. -/
theorem blockMax_real (v : FVec Ideal S2048x64 .f32) (f : Fin 2048 → Fin 64 → ℝ)
    (hv : ∀ r c, v (ix2 r c) = (f r c : EReal)) (j : S1.Idx) : ∃ m : ℝ, blockMax v j = (m : EReal) := by
  have hall : ∀ i : S1x2048x64.Idx, ∃ x : ℝ,
      shapeCast S1x2048x64 v shapeCasts_S2048x64_S1x2048x64 i = (x : EReal) := fun i => by
    obtain ⟨a, b, c, rfl⟩ : ∃ (a : Fin 1) (b : Fin 2048) (c : Fin 64), i = ix3 a b c := ⟨i 0, i 1, i 2, eq_ix3 i⟩
    exact ⟨f b c, by pointwise [hv]⟩
  have hj : ∀ y : S1.Idx, y = j := fun y => by
    rw [eq_ix1 y, eq_ix1 j]
    exact congrArg ix1 (Subsingleton.elim (α := Fin 1) (y 0) (j 0))
  have e : blockMax v j = (Finset.univ.filter fun i => (reduces_S1x2048x64_S1).drop i = j).fold FloatOps.maximumf
      (FloatOps.ofBits .f32 0xFF800000#32) (shapeCast S1x2048x64 v shapeCasts_S2048x64_S1x2048x64) :=
    multiReduction_maximumf_eq_fold (F := Ideal) _ _ _ _ _ j
  rw [e, show (FloatOps.ofBits .f32 0xFF800000#32 : Ideal .f32) = (⊥ : EReal) from ofBits_neg_inf]
  show ∃ m : ℝ, Finset.fold max (⊥ : EReal) _ _ = _
  refine fold_max_real _ _ (fun i _ => ?_) ⟨ix3 0 0 0, ?_, ?_⟩
  · obtain ⟨x, hx⟩ := hall i
    rw [hx]; exact EReal.coe_ne_top _
  · exact Finset.mem_filter.2 ⟨Finset.mem_univ _, hj _⟩
  · obtain ⟨x, hx⟩ := hall (ix3 0 0 0)
    rw [hx]; exact EReal.coe_ne_bot _

/-- The bound, as the kernel takes it: 64 times the two maxima. -/
theorem bound_eq (v27 v29 : FVec Ideal S2048x64 .f32) (v31 : FVec Ideal S1x64 .f32) :
    k0_pay9 (F := Ideal) v27 v29 v31
      = Scalar.mulf (Scalar.mulf (Scalar.ofBits .f32 0x42800000#32)
          (extractAt ![0, 0, 0] (shapeCast S1x1x1 (blockMax (absf v27)) shapeCasts_S1_S1x1x1) inpos_S1x1x1_p0_0_0))
          (extractAt ![0, 0, 0] (shapeCast S1x1x1 (blockMax (absf (k0_pay8 v29 v31))) shapeCasts_S1_S1x1x1)
            inpos_S1x1x1_p0_0_0) := rfl

/-- The one element of a vector of one element, read where the kernel reads it. -/
theorem extract_one (v : FVec Ideal S1 .f32) :
    extractAt ![0, 0, 0] (shapeCast S1x1x1 v shapeCasts_S1_S1x1x1) inpos_S1x1x1_p0_0_0 = v (ix1 0) := by
  pointwise

/-- The absolute values of a block of real numbers. -/
theorem abs_at (v : FVec Ideal S2048x64 .f32) (f : Fin 2048 → Fin 64 → ℝ) (hv : ∀ r c, v (ix2 r c) = (f r c : EReal))
    (r : Fin 2048) (c : Fin 64) : absf v (ix2 r c) = ((max (f r c) (-(f r c)) : ℝ) : EReal) := by
  show max (v (ix2 r c)) (-(v (ix2 r c))) = _
  rw [hv]; exact max_neg_coe _

/-- The bound is SOME real number, when the queries and the keys are real numbers. -/
theorem bound_real (v27 v29 : FVec Ideal S2048x64 .f32) (v31 : FVec Ideal S1x64 .f32) (q k : Fin 2048 → Fin 64 → ℝ)
    (hq : ∀ r c, v27 (ix2 r c) = (q r c : EReal)) (hk : ∀ r c, k0_pay8 v29 v31 (ix2 r c) = (k r c : EReal)) :
    ∃ b : ℝ, k0_pay9 (F := Ideal) v27 v29 v31 = (b : EReal) := by
  obtain ⟨m₁, h₁⟩ := blockMax_real (absf v27) _ (abs_at v27 q hq) (ix1 0)
  obtain ⟨m₂, h₂⟩ := blockMax_real (absf (k0_pay8 v29 v31)) _ (abs_at _ k hk) (ix1 0)
  refine ⟨64 * m₁ * m₂, ?_⟩
  rw [bound_eq, extract_one, extract_one, h₁, h₂, EReal.coe_mul, EReal.coe_mul, ← ofBits_64]
  exact rfl

end Cert.BlockFeat

end
-- ==== Proof.BlockAttn.lean ====
/-
  The attention of one block. The kernel computes it in eight chunks of 256 rows: a chunk is stated once, at any row
  offset, and each of the eight is an instance of it.
-/
module

public import proofs.«01_k».proof.Proof.BlockFeat

@[expose] public section

set_option maxRecDepth 16384

noncomputable section

namespace Cert.BlockAttn

open Idealize.ShloMosaic Idealize.ShloMosaic.TcCoe Idealize.SL.Sem
open Cert.KernelIdeal Cert.KernelIdeal.Gen Cert.Scalars Cert.Spec

/-- The powers of two of a chunk's shifted scores: rows `off` to `off + 255` of the queries against all keys. -/
def powers (off : Fin 2 → ℕ) (h : S2048x64.Slices off S256x64) (b : EReal) (q k : FVec Ideal S2048x64 .bf16) :
    FVec Ideal S256x2048 .bf16 :=
  truncf .bf16 (exp2 (subf (matmul dot_S256x64_S2048x64_S256x2048_1_1_0_0_n_n none (extractStridedSlice S256x64 off q h) k
    (constant S256x2048 .f32 0x00000000#32)) (broadcast S256x2048 (b : Ideal .f32)))) bitsLt_bf16_f32

/-- A chunk's rows from its powers: the products with the values over the products with the column of ones. -/
def rows (p : FVec Ideal S256x2048 .bf16) (v : FVec Ideal S2048x65 .bf16) : FVec Ideal S256x64 .f32 :=
  divf (extractStridedSlice S256x64 ![0, 0] (matmul dot_S256x2048_S2048x65_S256x65_1_0_0_1_n_n none p v
      (constant S256x65 .f32 0x00000000#32)) slices_S256x65_o0_0_S256x64)
    (broadcastTo S256x64 (extractStridedSlice S256x1 ![0, 64] (matmul dot_S256x2048_S2048x65_S256x65_1_0_0_1_n_n none p v
      (constant S256x65 .f32 0x00000000#32)) slices_S256x65_o0_64_S256x1) broadcasts_S256x1_S256x64)

/-- A chunk read at an index. -/
theorem rows_at (p : FVec Ideal S256x2048 .bf16) (v : FVec Ideal S2048x65 .bf16) (r : Fin 256) (c : Fin 64) :
    rows p v (ix2 r c) = Ideal.div (∑ j : Fin 2048, p (ix2 r j) * v (ix2 j ⟨c, by omega⟩))
      (∑ j : Fin 2048, p (ix2 r j) * v (ix2 j 64)) := by
  pointwise [rows]

/-- A chunk's powers read at an index. -/
theorem powers_at (o : ℕ) (h : S2048x64.Slices ![o, 0] S256x64) (ho : o + 256 ≤ 2048) (b : EReal) (q k : FVec Ideal S2048x64 .bf16)
    (r : Fin 256) (j : Fin 2048) :
    powers ![o, 0] h b q k (ix2 r j)
      = Ideal.exp2 ((∑ i : Fin 64, q (ix2 ⟨o + r, by omega⟩ i) * k (ix2 j i)) - b) := by
  pointwise [powers]
  rfl

/-- A chunk of the attention is the weighted mean of the values, row by row. -/
theorem chunk_at (o : ℕ) (h : S2048x64.Slices ![o, 0] S256x64) (ho : o + 256 ≤ 2048) (b : ℝ)
    (q k : FVec Ideal S2048x64 .bf16) (v : FVec Ideal S2048x65 .bf16) (Q K V : Fin 2048 → Fin 64 → ℝ)
    (hq : ∀ r i, q (ix2 r i) = ((Q r i * ((1 / 8) * (Real.log 2)⁻¹) : ℝ) : EReal))
    (hk : ∀ r i, k (ix2 r i) = (K r i : EReal))
    (hv : ∀ (j : Fin 2048) (c : Fin 65), v (ix2 j c) = if h : (c : ℕ) < 64 then (V j ⟨c, h⟩ : EReal) else 1)
    (r : Fin 256) (c : Fin 64) :
    rows (powers ![o, 0] h (b : EReal) q k) v (ix2 r c)
      = (wmean (score Q K ⟨o + r, by omega⟩) (fun j => V j c) : EReal) := by
  rw [rows_at]
  simp only [powers_at o h ho]
  have h1 : ∀ j : Fin 2048, v (ix2 j ⟨c, by omega⟩) = (V j c : EReal) := fun j => by
    rw [hv]; simp only [Fin.is_lt, dite_true, Fin.eta]
  have h2 : ∀ j : Fin 2048, v (ix2 j 64) = 1 := fun j => by
    rw [hv]; exact dif_neg (by decide)
  simp only [h1, h2, mul_one]
  refine wmean_pow2 _ _ b _ fun j => ?_
  simp only [hq, hk, ← EReal.coe_mul, sum_coe]
  congr 1
  rw [score, Finset.sum_div, Finset.sum_mul]
  exact Finset.sum_congr rfl fun i _ => by ring

/-- Eight chunks of 256 rows, one above the other, read at an index. -/
theorem stack_at (A : Fin 2048 → Fin 64 → EReal) (p0 p1 p2 p3 p4 p5 p6 p7 : FVec Ideal S256x64 .f32)
    (h0 : ∀ (r : Fin 256) c, p0 (ix2 r c) = A ⟨0 + r, by omega⟩ c) (h1 : ∀ (r : Fin 256) c, p1 (ix2 r c) = A ⟨256 + r, by omega⟩ c)
    (h2 : ∀ (r : Fin 256) c, p2 (ix2 r c) = A ⟨512 + r, by omega⟩ c) (h3 : ∀ (r : Fin 256) c, p3 (ix2 r c) = A ⟨768 + r, by omega⟩ c)
    (h4 : ∀ (r : Fin 256) c, p4 (ix2 r c) = A ⟨1024 + r, by omega⟩ c) (h5 : ∀ (r : Fin 256) c, p5 (ix2 r c) = A ⟨1280 + r, by omega⟩ c)
    (h6 : ∀ (r : Fin 256) c, p6 (ix2 r c) = A ⟨1536 + r, by omega⟩ c) (h7 : ∀ (r : Fin 256) c, p7 (ix2 r c) = A ⟨1792 + r, by omega⟩ c)
    (r : Fin 2048) (c : Fin 64) :
    concatenate S2048x64 0 [⟨S256x64, p0⟩, ⟨S256x64, p1⟩, ⟨S256x64, p2⟩, ⟨S256x64, p3⟩, ⟨S256x64, p4⟩, ⟨S256x64, p5⟩,
      ⟨S256x64, p6⟩, ⟨S256x64, p7⟩]
      concatenates_S256x64_S256x64_S256x64_S256x64_S256x64_S256x64_S256x64_S256x64_S2048x64_d0 (ix2 r c) = A r c := by
  pointwise [h0, h1, h2, h3, h4, h5, h6, h7]
  repeat' split
  all_goals exact congrArg (fun x => A x c) (Fin.ext (by simp only [Nat.zero_add] <;> omega))

/-- The features after attention, from the chunks computed before it (six whole, one as its powers). -/
theorem mixed_eq (v17 : FVec Ideal S2048x64 .f32) (b : EReal) (q k : FVec Ideal S2048x64 .bf16) (v : FVec Ideal S2048x65 .bf16)
    (p0 p1 p2 p3 p4 p5 : FVec Ideal S256x64 .f32) (w : FVec Ideal S256x2048 .bf16) :
    k0_pay20 (F := Ideal) v17 b q k v p0 p1 p2 p3 p4 p5 w (constant S256x65 .f32 0x00000000#32)
      = addf v17 (concatenate S2048x64 0 [⟨S256x64, p0⟩, ⟨S256x64, p1⟩, ⟨S256x64, p2⟩, ⟨S256x64, p3⟩, ⟨S256x64, p4⟩,
          ⟨S256x64, p5⟩, ⟨S256x64, rows w v⟩,
          ⟨S256x64, rows (powers ![1792, 0] slices_S2048x64_o1792_0_S256x64 b q k) v⟩]
          concatenates_S256x64_S256x64_S256x64_S256x64_S256x64_S256x64_S256x64_S256x64_S2048x64_d0) := rfl

/-- The chunks of the kernel are chunks at the row offsets 0, 256, …, 1536. -/
theorem chunk0_eq (f q k : FVec Ideal S2048x64 .f32) (bk : FVec Ideal S1x64 .f32) (wv : FVec Ideal S64x64 .f32) (bv : FVec Ideal S1x64 .f32) :
    k0_pay13 (F := Ideal) f q k bk wv bv = rows (powers ![0, 0] slices_S2048x64_o0_0_S256x64 (k0_pay9 q k bk) (k0_pay10 q) (k0_pay11 k bk)) (k0_pay12 f wv bv) := rfl
theorem chunk1_eq (f q k : FVec Ideal S2048x64 .f32) (bk : FVec Ideal S1x64 .f32) (wv : FVec Ideal S64x64 .f32) (bv : FVec Ideal S1x64 .f32) :
    k0_pay14 (F := Ideal) f q k bk wv bv = rows (powers ![256, 0] slices_S2048x64_o256_0_S256x64 (k0_pay9 q k bk) (k0_pay10 q) (k0_pay11 k bk)) (k0_pay12 f wv bv) := rfl
theorem chunk2_eq (b : EReal) (q k : FVec Ideal S2048x64 .bf16) (v : FVec Ideal S2048x65 .bf16) :
    k0_pay15 (F := Ideal) b q k v = rows (powers ![512, 0] slices_S2048x64_o512_0_S256x64 b q k) v := rfl
theorem chunk3_eq (b : EReal) (q k : FVec Ideal S2048x64 .bf16) (v : FVec Ideal S2048x65 .bf16) :
    k0_pay16 (F := Ideal) b q k v = rows (powers ![768, 0] slices_S2048x64_o768_0_S256x64 b q k) v := rfl
theorem chunk4_eq (b : EReal) (q k : FVec Ideal S2048x64 .bf16) (v : FVec Ideal S2048x65 .bf16) :
    k0_pay17 (F := Ideal) b q k v = rows (powers ![1024, 0] slices_S2048x64_o1024_0_S256x64 b q k) v := rfl
theorem chunk5_eq (b : EReal) (q k : FVec Ideal S2048x64 .bf16) (v : FVec Ideal S2048x65 .bf16) :
    k0_pay18 (F := Ideal) b q k v = rows (powers ![1280, 0] slices_S2048x64_o1280_0_S256x64 b q k) v := rfl
theorem chunk6_eq (b : EReal) (q k : FVec Ideal S2048x64 .bf16) :
    k0_pay19 (F := Ideal) b q k = powers ![1536, 0] slices_S2048x64_o1536_0_S256x64 b q k := rfl

/-- The features after attention, read at an index: the real function, when features, queries, keys, values and the
    bound are real numbers. -/
theorem mixed_at (f q k : FVec Ideal S2048x64 .f32) (bk : FVec Ideal S1x64 .f32) (wv : FVec Ideal S64x64 .f32) (bv : FVec Ideal S1x64 .f32)
    (Fe Q K V : Fin 2048 → Fin 64 → ℝ)
    (hf : ∀ r i, f (ix2 r i) = (Fe r i : EReal))
    (hq : ∀ r i, q (ix2 r i) = ((Q r i * ((1 / 8) * (Real.log 2)⁻¹) : ℝ) : EReal))
    (hk : ∀ r i, k0_pay8 k bk (ix2 r i) = (K r i : EReal))
    (hv : ∀ (j : Fin 2048) (c : Fin 65), k0_pay12 f wv bv (ix2 j c) = if h : (c : ℕ) < 64 then (V j ⟨c, h⟩ : EReal) else 1)
    (r : Fin 2048) (c : Fin 64) :
    k0_pay20 (F := Ideal) f (k0_pay9 q k bk) (k0_pay10 q) (k0_pay11 k bk) (k0_pay12 f wv bv)
        (k0_pay13 f q k bk wv bv) (k0_pay14 f q k bk wv bv)
        (k0_pay15 (k0_pay9 q k bk) (k0_pay10 q) (k0_pay11 k bk) (k0_pay12 f wv bv))
        (k0_pay16 (k0_pay9 q k bk) (k0_pay10 q) (k0_pay11 k bk) (k0_pay12 f wv bv))
        (k0_pay17 (k0_pay9 q k bk) (k0_pay10 q) (k0_pay11 k bk) (k0_pay12 f wv bv))
        (k0_pay18 (k0_pay9 q k bk) (k0_pay10 q) (k0_pay11 k bk) (k0_pay12 f wv bv))
        (k0_pay19 (k0_pay9 q k bk) (k0_pay10 q) (k0_pay11 k bk)) (constant S256x65 .f32 0x00000000#32) (ix2 r c)
      = (mixed Fe Q K V r c : EReal) := by
  obtain ⟨b, hb⟩ := BlockFeat.bound_real q k bk _ K hq hk
  have hq' : ∀ r i, k0_pay10 (F := Ideal) q (ix2 r i) = ((Q r i * ((1 / 8) * (Real.log 2)⁻¹) : ℝ) : EReal) := hq
  have hk' : ∀ r i, k0_pay11 (F := Ideal) k bk (ix2 r i) = (K r i : EReal) := hk
  rw [mixed_eq, chunk0_eq, chunk1_eq, chunk2_eq, chunk3_eq, chunk4_eq, chunk5_eq, chunk6_eq, hb]
  have hc := fun o h ho r c => chunk_at o h ho b _ _ _ Q K V hq' hk' hv r c
  have hs := stack_at (fun r c => (wmean (score Q K r) (fun j => V j c) : EReal)) _ _ _ _ _ _ _ _
    (hc 0 slices_S2048x64_o0_0_S256x64 (by omega)) (hc 256 slices_S2048x64_o256_0_S256x64 (by omega))
    (hc 512 slices_S2048x64_o512_0_S256x64 (by omega)) (hc 768 slices_S2048x64_o768_0_S256x64 (by omega))
    (hc 1024 slices_S2048x64_o1024_0_S256x64 (by omega)) (hc 1280 slices_S2048x64_o1280_0_S256x64 (by omega))
    (hc 1536 slices_S2048x64_o1536_0_S256x64 (by omega)) (hc 1792 slices_S2048x64_o1792_0_S256x64 (by omega)) r c
  refine (congrArg₂ (fun x y : EReal => x + y) (hf r c) hs).trans ?_
  rw [← EReal.coe_add]
  rfl

end Cert.BlockAttn

end
-- ==== Proof.BlockTags.lean ====
/-
  The second half of one block: the measurements' own logits, the features of the tags, the tags' logits, the pooled
  features and the two output heads, each read at an index.
-/
module

public import proofs.«01_k».proof.Proof.BlockFeat

@[expose] public section

set_option maxRecDepth 16384

noncomputable section

namespace Cert.BlockTags

open Idealize.ShloMosaic Idealize.ShloMosaic.TcCoe Idealize.SL.Sem
open Cert.KernelIdeal Cert.KernelIdeal.Gen Cert.Scalars Cert.Spec Cert.BlockFeat

/-- The measurements' own logits, times `(log 2)⁻¹`. -/
theorem ownLogit_at (f : FVec Ideal S2048x64 .f32) (b : EReal) (q k : FVec Ideal S2048x64 .bf16) (v : FVec Ideal S2048x65 .bf16)
    (p0 p1 p2 p3 p4 p5 : FVec Ideal S256x64 .f32) (w : FVec Ideal S256x2048 .bf16) (z : FVec Ideal S256x65 .f32)
    (x12 : FVec Ideal S64x32 .f32) (x13 : FVec Ideal S1x32 .f32) (x14 : FVec Ideal S32x1 .f32) (x15 : FVec Ideal S1x1 .f32)
    (G : Fin 2048 → Fin 64 → ℝ) (WA : Fin 64 → Fin 32 → ℝ) (BA : Fin 32 → ℝ) (WB : Fin 32 → Fin 1 → ℝ) (BB : Fin 1 → ℝ)
    (hg : ∀ r c, k0_pay20 (F := Ideal) f b q k v p0 p1 p2 p3 p4 p5 w z (ix2 r c) = (G r c : EReal))
    (h12 : ∀ i c, x12 (ix2 i c) = (WA i c : EReal)) (h13 : ∀ c, x13 (ix2 0 c) = (BA c : EReal))
    (h14 : ∀ i c, x14 (ix2 i c) = (WB i c : EReal)) (h15 : ∀ c, x15 (ix2 0 c) = (BB c : EReal)) (r : Fin 2048) :
    k0_pay21 (F := Ideal) f b q k v p0 p1 p2 p3 p4 p5 w z x12 x13 x14 x15 (ix2 r 0)
      = ((ownLogit G WA BA WB BB r * (Real.log 2)⁻¹ : ℝ) : EReal) := by
  pointwise [k0_pay21, hg, h12, h13, h14, h15, named_log2e]
  simp only [← EReal.coe_mul, sum_coe, ← EReal.coe_add, max_zero_coe]
  congr 1
  simp only [ownLogit, relu, lin, add_mul, Finset.sum_mul, mul_assoc]

/-- A comparison of two words for equality, as a bit. -/
theorem cmpi_eq_if (a b : BitVec 32) : IntOp.cmpi CmpIPredicate.eq a b = if a = b then 1#1 else 0#1 := by
  by_cases h : a = b
  · simp [IntOp.cmpi, h]
  · simp [IntOp.cmpi, beq_eq_false_iff_ne.mpr h, h]

/-- A choice by the bit of a proposition is the choice by the proposition. -/
theorem select_if {α : Type} (p : Prop) [Decidable p] (a b : α) :
    Scalar.select (if p then 1#1 else 0#1) a b = if p then a else b := by
  by_cases h : p <;> simp [Scalar.select, h]

/-- The bit of a proposition as a number. -/
theorem sitofp_if (p : Prop) [Decidable p] :
    FloatOps.sitofp (F := Ideal) .f32 (BitVec.setWidth 32 (if p then 1#1 else 0#1)) = if p then (1 : EReal) else 0 := by
  by_cases h : p <;> simp [h, FloatOps.sitofp]

/-- The mask bit of a measurement and a tag. -/
theorem mask_at (x1 : IVec S1x2048x1 32) (tag : Fin 2048 → BitVec 32) (h1 : ∀ r, x1 (ix3 0 r 0) = tag r) (r : Fin 2048) (t : Fin 64) :
    k0_pay22 (F := Ideal) x1 (ix2 r t) = if tag r = BitVec.ofNat 32 t then 1#1 else 0#1 := by
  pointwise [k0_pay22, h1]
  exact cmpi_eq_if _ _

/-- The mask as a number. -/
theorem weight_at (x1 : IVec S1x2048x1 32) (tag : Fin 2048 → BitVec 32) (h1 : ∀ r, x1 (ix3 0 r 0) = tag r) (r : Fin 2048) (t : Fin 64) :
    k0_pay24 (F := Ideal) (k0_pay23 (F := Ideal) x1) (ix2 r t) = if tag r = BitVec.ofNat 32 t then 1 else 0 := by
  pointwise [k0_pay24, k0_pay23, mask_at x1 tag h1]
  exact sitofp_if _

/-- The features of a carried tag. -/
theorem tagFeat_at (m : IVec S2048x64 1) (n : IVec S2048x64 32) (g : FVec Ideal S2048x64 .f32) (l : FVec Ideal S2048x1 .f32)
    (tag : Fin 2048 → BitVec 32) (G : Fin 2048 → Fin 64 → ℝ) (L : Fin 2048 → ℝ)
    (hm : ∀ r (t : Fin 64), m (ix2 r t) = if tag r = BitVec.ofNat 32 t then 1#1 else 0#1)
    (hn : ∀ r (t : Fin 64), k0_pay24 (F := Ideal) n (ix2 r t) = if tag r = BitVec.ofNat 32 t then 1 else 0)
    (hg : ∀ r c, g (ix2 r c) = (G r c : EReal))
    (hl : ∀ r, l (ix2 r 0) = ((L r * (Real.log 2)⁻¹ : ℝ) : EReal))
    (t c : Fin 64) (hp : Carried tag t) :
    k0_pay25 (F := Ideal) g l m n (ix2 t c) = (tagFeat tag L G t c : EReal) := by
  pointwise [k0_pay25, hm, hn, hg, hl, named_mask, ofBits_neg_inf]
  simp only [select_if]
  have hb := fold_max_on (fun r => tag r = BitVec.ofNat 32 t) (fun r => L r * (Real.log 2)⁻¹) hp
  obtain ⟨b, hb⟩ := hb
  rw [hb]
  exact wmeanOn_pow2 (fun r => tag r = BitVec.ofNat 32 t) L (fun r => G r c) hp b _ fun _ => rfl

/-- A tag counts more than half a measurement if and only if some measurement carries it. -/
theorem half_lt_count (tag : Fin 2048 → BitVec 32) (t : Fin 64) :
    Ideal.ofBits .f32 0x3F000000#32 < ∑ r, (if tag r = BitVec.ofNat 32 t then (1 : EReal) else 0) ↔ Carried tag t := by
  rw [ofBits_half]
  constructor
  · intro h
    by_contra hn
    rw [Finset.sum_eq_zero fun r _ => if_neg fun hr => hn ⟨r, hr⟩] at h
    exact absurd (EReal.coe_lt_coe_iff.mp h) (by norm_num)
  · rintro ⟨r, hr⟩
    have h : (1 : EReal) ≤ ∑ r, (if tag r = BitVec.ofNat 32 t then (1 : EReal) else 0) := by
      refine le_trans (by simp [hr]) (Finset.single_le_sum (f := fun r => if tag r = BitVec.ofNat 32 t then (1 : EReal) else 0)
        (fun i _ => ?_) (Finset.mem_univ r))
      split_ifs <;> simp
    refine lt_of_lt_of_le ?_ h
    exact_mod_cast (by norm_num : (1 / 2 : ℝ) < 1)

/-- The tags' logits, −∞ for those that no measurement carries, less their maximum. -/
theorem tagLogit_at (m : IVec S2048x64 1) (n : IVec S2048x64 32) (g : FVec Ideal S2048x64 .f32) (l : FVec Ideal S2048x1 .f32)
    (x16 : FVec Ideal S64x32 .f32) (x17 : FVec Ideal S1x32 .f32) (x18 : FVec Ideal S32x1 .f32) (x19 : FVec Ideal S1x1 .f32)
    (tag : Fin 2048 → BitVec 32) (T : Fin 64 → Fin 64 → EReal)
    (hn : ∀ r (t : Fin 64), k0_pay24 (F := Ideal) n (ix2 r t) = if tag r = BitVec.ofNat 32 t then 1 else 0)
    (hT : ∀ t c, k0_pay25 (F := Ideal) g l m n (ix2 t c) = T t c) (L : Fin 64 → EReal)
    (hL : ∀ t, Carried tag t → (∑ k, max ((∑ i, T t i * x16 (ix2 i k)) + x17 (ix2 0 k)) 0 * x18 (ix2 k 0)) + x19 (ix2 0 0) = L t)
    (t : Fin 64) :
    k0_pay26 (F := Ideal) g l m n x16 x17 x18 x19 (ix2 t 0)
      = (if Carried tag t then L t else ⊥) - Finset.univ.fold max ⊥ (fun t => if Carried tag t then L t else ⊥) := by
  have e : ∀ t : Fin 64, (if Ideal.ofBits .f32 0x3F000000#32 < ∑ r, (if tag r = BitVec.ofNat 32 t then (1 : EReal) else 0)
      then (∑ k, max ((∑ i, T t i * x16 (ix2 i k)) + x17 (ix2 0 k)) 0 * x18 (ix2 k 0)) + x19 (ix2 0 0) else ⊥)
      = if Carried tag t then L t else ⊥ := fun t => by
    by_cases h : Carried tag t
    · rw [if_pos h, if_pos ((half_lt_count tag t).mpr h), hL t h]
    · rw [if_neg h, if_neg fun hc => h ((half_lt_count tag t).mp hc)]
  pointwise [k0_pay26, hn, hT, named_mask, ofBits_neg_inf]
  simp only [e]

/-- The logit of a row of real features, as the programs compute it. -/
theorem ownLogit_coe {n : ℕ} (G : Fin n → Fin 64 → ℝ) (WA : Fin 64 → Fin 32 → ℝ) (BA : Fin 32 → ℝ) (WB : Fin 32 → Fin 1 → ℝ)
    (BB : Fin 1 → ℝ) (r : Fin n) :
    (∑ k, max ((∑ i, (G r i : EReal) * (WA i k : EReal)) + (BA k : EReal)) 0 * (WB k 0 : EReal)) + (BB 0 : EReal)
      = (ownLogit G WA BA WB BB r : EReal) := by
  simp only [← EReal.coe_mul, sum_coe, ← EReal.coe_add, max_zero_coe]
  rfl

/-- The pooled features, from the tags' features and shifted logits. -/
theorem pooled_at (T : FVec Ideal S64x64 .f32) (d : FVec Ideal S64x1 .f32) (l : Fin 64 → EReal)
    (hd : ∀ t, d (ix2 t 0) = l t - Finset.univ.fold max ⊥ l) (c : Fin 64) :
    k0_pay1 (F := Ideal) T d (ix2 0 c) = ∑ t, Ideal.div (Ideal.exp (l t - Finset.univ.fold max ⊥ l))
      (∑ t', Ideal.exp (l t' - Finset.univ.fold max ⊥ l)) * T (ix2 t c) := by
  pointwise [k0_pay1, hd]

/-- The first output head. -/
theorem head24_at (T : FVec Ideal S64x64 .f32) (d : FVec Ideal S64x1 .f32) (w : FVec Ideal S64x3 .f32) (b : FVec Ideal S1x3 .f32)
    (p : Fin 64 → EReal) (hp : ∀ c, k0_pay1 (F := Ideal) T d (ix2 0 c) = p c) (o : Fin 3) :
    k0_pay2 (F := Ideal) T d w b (ix3 0 0 o) = head p (fun c o => w (ix2 c o)) (fun o => b (ix2 0 o)) o := by
  pointwise [k0_pay2, hp]
  rfl

/-- The second output head. -/
theorem head25_at (T : FVec Ideal S64x64 .f32) (d : FVec Ideal S64x1 .f32) (w : FVec Ideal S64x6 .f32) (b : FVec Ideal S1x6 .f32)
    (p : Fin 64 → EReal) (hp : ∀ c, k0_pay1 (F := Ideal) T d (ix2 0 c) = p c) (o : Fin 6) :
    k0_pay3 (F := Ideal) T d w b (ix3 0 0 o) = head p (fun c o => w (ix2 c o)) (fun o => b (ix2 0 o)) o := by
  pointwise [k0_pay3, hp]
  rfl

end Cert.BlockTags

end
-- ==== Proof.BlockOut.lean ====
/-
  What one block computes: the body's two stored blocks, as functions of the loaded blocks, are the specified outputs of
  that batch.
-/
module

public import proofs.«01_k».proof.Proof.BlockAttn
public import proofs.«01_k».proof.Proof.BlockTags
public import proofs.«01_k».proof.Proof.Gen.KernelIdeal.Value
public import Idealize.ShloMosaic.Lib.Pipeline.ValueKit

@[expose] public section

set_option maxRecDepth 16384

noncomputable section

namespace Cert.BlockOut

open Idealize.ShloMosaic Idealize.ShloMosaic.TcCoe Idealize.SL.Sem
open Cert.KernelIdeal Cert.KernelIdeal.Gen Cert.Scalars Cert.Spec

variable (x0 : FVec Ideal S1x2048x5 .f32) (x1 : IVec S1x2048x1 32) (x2 : FVec Ideal S5x64 .f32) (x3 : FVec Ideal S1x64 .f32)
  (x4 : FVec Ideal S64x64 .f32) (x5 : FVec Ideal S1x64 .f32) (x6 : FVec Ideal S64x64 .f32) (x7 : FVec Ideal S1x64 .f32)
  (x8 : FVec Ideal S64x64 .f32) (x9 : FVec Ideal S1x64 .f32) (x10 : FVec Ideal S64x64 .f32) (x11 : FVec Ideal S1x64 .f32)
  (x12 : FVec Ideal S64x32 .f32) (x13 : FVec Ideal S1x32 .f32) (x14 : FVec Ideal S32x1 .f32) (x15 : FVec Ideal S1x1 .f32)
  (x16 : FVec Ideal S64x32 .f32) (x17 : FVec Ideal S1x32 .f32) (x18 : FVec Ideal S32x1 .f32) (x19 : FVec Ideal S1x1 .f32)
  (x20 : FVec Ideal S64x3 .f32) (x21 : FVec Ideal S1x3 .f32) (x22 : FVec Ideal S64x6 .f32) (x23 : FVec Ideal S1x6 .f32)

/-- The loaded blocks hold the real numbers `P` and `X` and the tags `tag`, and some tag has a measurement. -/
structure Holds (P : Weights) (X : Fin 2048 → Fin 5 → ℝ) (tag : Fin 2048 → BitVec 32) : Prop where
  /-- The measurements. -/
  h0 : ∀ r i, x0 (ix3 0 r i) = (X r i : EReal)
  /-- The tags. -/
  h1 : ∀ r, x1 (ix3 0 r 0) = tag r
  /-- The weights and the biases, in the order of the arguments. -/
  h2 : ∀ i c, x2 (ix2 i c) = (P.w1 i c : EReal)
  h3 : ∀ c, x3 (ix2 0 c) = (P.b1 c : EReal)
  h4 : ∀ i c, x4 (ix2 i c) = (P.w2 i c : EReal)
  h5 : ∀ c, x5 (ix2 0 c) = (P.b2 c : EReal)
  h6 : ∀ i c, x6 (ix2 i c) = (P.wq i c : EReal)
  h7 : ∀ c, x7 (ix2 0 c) = (P.bq c : EReal)
  h8 : ∀ i c, x8 (ix2 i c) = (P.wk i c : EReal)
  h9 : ∀ c, x9 (ix2 0 c) = (P.bk c : EReal)
  h10 : ∀ i c, x10 (ix2 i c) = (P.wv i c : EReal)
  h11 : ∀ c, x11 (ix2 0 c) = (P.bv c : EReal)
  h12 : ∀ i c, x12 (ix2 i c) = (P.wa i c : EReal)
  h13 : ∀ c, x13 (ix2 0 c) = (P.ba c : EReal)
  h14 : ∀ i c, x14 (ix2 i c) = (P.wb i c : EReal)
  h15 : ∀ c, x15 (ix2 0 c) = (P.bb c : EReal)
  h16 : ∀ i c, x16 (ix2 i c) = (P.wc i c : EReal)
  h17 : ∀ c, x17 (ix2 0 c) = (P.bc c : EReal)
  h18 : ∀ i c, x18 (ix2 i c) = (P.wd i c : EReal)
  h19 : ∀ c, x19 (ix2 0 c) = (P.bd c : EReal)
  /-- Some tag has a measurement. -/
  hp : ∃ t, Carried tag t

/-- The block's features. -/
abbrev fB : FVec Ideal S2048x64 .f32 := k0_pay4 x0 x2 x3 x4 x5
/-- The block's queries. -/
abbrev qB : FVec Ideal S2048x64 .f32 := k0_pay5 x0 x2 x3 x4 x5 x6 x7
/-- The block's keys before their bias. -/
abbrev kB : FVec Ideal S2048x64 .f32 := k0_pay6 x0 x2 x3 x4 x5 x8

/-- The block's features after attention. -/
abbrev gB : FVec Ideal S2048x64 .f32 :=
  let f := fB x0 x2 x3 x4 x5
  let q := qB x0 x2 x3 x4 x5 x6 x7
  let k := kB x0 x2 x3 x4 x5 x8
  let bk := k0_pay7 x9
  k0_pay20 f (k0_pay9 q k bk) (k0_pay10 q) (k0_pay11 k bk) (k0_pay12 f x10 x11) (k0_pay13 f q k bk x10 x11)
    (k0_pay14 f q k bk x10 x11) (k0_pay15 (k0_pay9 q k bk) (k0_pay10 q) (k0_pay11 k bk) (k0_pay12 f x10 x11))
    (k0_pay16 (k0_pay9 q k bk) (k0_pay10 q) (k0_pay11 k bk) (k0_pay12 f x10 x11))
    (k0_pay17 (k0_pay9 q k bk) (k0_pay10 q) (k0_pay11 k bk) (k0_pay12 f x10 x11))
    (k0_pay18 (k0_pay9 q k bk) (k0_pay10 q) (k0_pay11 k bk) (k0_pay12 f x10 x11))
    (k0_pay19 (k0_pay9 q k bk) (k0_pay10 q) (k0_pay11 k bk)) (constant S256x65 .f32 0x00000000#32)

/-- The block's logits. -/
abbrev lB : FVec Ideal S2048x1 .f32 :=
  let f := fB x0 x2 x3 x4 x5
  let q := qB x0 x2 x3 x4 x5 x6 x7
  let k := kB x0 x2 x3 x4 x5 x8
  let bk := k0_pay7 x9
  k0_pay21 f (k0_pay9 q k bk) (k0_pay10 q) (k0_pay11 k bk) (k0_pay12 f x10 x11) (k0_pay13 f q k bk x10 x11)
    (k0_pay14 f q k bk x10 x11) (k0_pay15 (k0_pay9 q k bk) (k0_pay10 q) (k0_pay11 k bk) (k0_pay12 f x10 x11))
    (k0_pay16 (k0_pay9 q k bk) (k0_pay10 q) (k0_pay11 k bk) (k0_pay12 f x10 x11))
    (k0_pay17 (k0_pay9 q k bk) (k0_pay10 q) (k0_pay11 k bk) (k0_pay12 f x10 x11))
    (k0_pay18 (k0_pay9 q k bk) (k0_pay10 q) (k0_pay11 k bk) (k0_pay12 f x10 x11))
    (k0_pay19 (k0_pay9 q k bk) (k0_pay10 q) (k0_pay11 k bk)) (constant S256x65 .f32 0x00000000#32) x12 x13 x14 x15

/-- The features of the block's tags. -/
abbrev tB : FVec Ideal S64x64 .f32 :=
  k0_pay25 (gB x0 x2 x3 x4 x5 x6 x7 x8 x9 x10 x11) (lB x0 x2 x3 x4 x5 x6 x7 x8 x9 x10 x11 x12 x13 x14 x15)
    (k0_pay22 (F := Ideal) x1) (k0_pay23 (F := Ideal) x1)

/-- The shifted logits of the block's tags. -/
abbrev dB : FVec Ideal S64x1 .f32 :=
  k0_pay26 (gB x0 x2 x3 x4 x5 x6 x7 x8 x9 x10 x11) (lB x0 x2 x3 x4 x5 x6 x7 x8 x9 x10 x11 x12 x13 x14 x15)
    (k0_pay22 (F := Ideal) x1) (k0_pay23 (F := Ideal) x1) x16 x17 x18 x19

section
variable {x0 x1 x2 x3 x4 x5 x6 x7 x8 x9 x10 x11 x12 x13 x14 x15 x16 x17 x18 x19}
variable {P : Weights} {X : Fin 2048 → Fin 5 → ℝ} {tag : Fin 2048 → BitVec 32}
  (h : Holds x0 x1 x2 x3 x4 x5 x6 x7 x8 x9 x10 x11 x12 x13 x14 x15 x16 x17 x18 x19 P X tag)

include h

/-- The block's features after attention, at an index. -/
theorem attended_at (r : Fin 2048) (c : Fin 64) :
    gB x0 x2 x3 x4 x5 x6 x7 x8 x9 x10 x11 (ix2 r c) = (attended P X r c : EReal) :=
  BlockAttn.mixed_at _ _ _ _ _ _ (feats P X) _ _ _
    (BlockFeat.feat_at x0 x2 x3 x4 x5 X P.w1 P.b1 P.w2 P.b2 h.h0 h.h2 h.h3 h.h4 h.h5)
    (BlockFeat.query_at x0 x2 x3 x4 x5 X P.w1 P.b1 P.w2 P.b2 h.h0 h.h2 h.h3 h.h4 h.h5 x6 x7 P.wq P.bq h.h6 h.h7)
    (BlockFeat.key_at x0 x2 x3 x4 x5 X P.w1 P.b1 P.w2 P.b2 h.h0 h.h2 h.h3 h.h4 h.h5 x8 x9 P.wk P.bk h.h8 h.h9)
    (BlockFeat.value_at _ x10 x11 (feats P X) P.wv P.bv
      (BlockFeat.feat_at x0 x2 x3 x4 x5 X P.w1 P.b1 P.w2 P.b2 h.h0 h.h2 h.h3 h.h4 h.h5) h.h10 h.h11) r c

/-- The block's logits, at an index. -/
theorem logits_at (r : Fin 2048) :
    lB x0 x2 x3 x4 x5 x6 x7 x8 x9 x10 x11 x12 x13 x14 x15 (ix2 r 0) = ((logits P X r * (Real.log 2)⁻¹ : ℝ) : EReal) :=
  BlockTags.ownLogit_at _ _ _ _ _ _ _ _ _ _ _ _ _ x12 x13 x14 x15 (attended P X) P.wa P.ba P.wb P.bb (attended_at h)
    h.h12 h.h13 h.h14 h.h15 r

/-- The features of a carried tag of the block, at an index. -/
theorem tags_at (t c : Fin 64) (ht : Carried tag t) :
    tB x0 x1 x2 x3 x4 x5 x6 x7 x8 x9 x10 x11 x12 x13 x14 x15 (ix2 t c) = (tags P X tag t c : EReal) :=
  BlockTags.tagFeat_at _ _ _ _ tag (attended P X) (logits P X) (BlockTags.mask_at x1 tag h.h1) (BlockTags.weight_at x1 tag h.h1)
    (attended_at h) (logits_at h) t c ht

/-- The logit of a carried tag of the block. -/
theorem tagLogits_at (t : Fin 64) (ht : Carried tag t) :
    (∑ k, max ((∑ i, tB x0 x1 x2 x3 x4 x5 x6 x7 x8 x9 x10 x11 x12 x13 x14 x15 (ix2 t i) * x16 (ix2 i k)) + x17 (ix2 0 k)) 0
      * x18 (ix2 k 0)) + x19 (ix2 0 0) = (tagLogits P X tag t : EReal) := by
  have hT : ∀ c, tB x0 x1 x2 x3 x4 x5 x6 x7 x8 x9 x10 x11 x12 x13 x14 x15 (ix2 t c) = (tags P X tag t c : EReal) :=
    fun c => tags_at h t c ht
  simp only [hT, h.h16, h.h17, h.h18, h.h19]
  exact BlockTags.ownLogit_coe _ _ _ _ _ t

/-- The pooled features of the block, at an index. -/
theorem pooled_at (c : Fin 64) :
    k0_pay1 (tB x0 x1 x2 x3 x4 x5 x6 x7 x8 x9 x10 x11 x12 x13 x14 x15)
        (dB x0 x1 x2 x3 x4 x5 x6 x7 x8 x9 x10 x11 x12 x13 x14 x15 x16 x17 x18 x19) (ix2 0 c) = (pooled P X tag c : EReal) := by
  rw [BlockTags.pooled_at _ _ _ (BlockTags.tagLogit_at _ _ _ _ x16 x17 x18 x19 tag _
    (BlockTags.weight_at x1 tag h.h1) (fun _ _ => rfl) (fun t => (tagLogits P X tag t : EReal)) (tagLogits_at h)) c]
  obtain ⟨b, hb⟩ := fold_max_on (Carried tag) (tagLogits P X tag) h.hp
  rw [hb]
  exact wmeanOn_any (Carried tag) (tagLogits P X tag) (fun t => tags P X tag t c) h.hp b _ fun t ht => tags_at h t c ht

/-- The first output's block is the specified output. -/
theorem out24_at (o : Fin 3) :
    out0_24 (F := Ideal) x0 x1 x2 x3 x4 x5 x6 x7 x8 x9 x10 x11 x12 x13 x14 x15 x16 x17 x18 x19 x20 x21 x22 x23 (ix3 0 0 o)
      = output P X tag (fun c o => x20 (ix2 c o)) (fun o => x21 (ix2 0 o)) o := by
  frame_out
  unfold k0_pay47 k0_pay46 k0_pay45 k0_pay44 k0_pay43 k0_pay42 k0_pay41 k0_pay40 k0_pay39
    k0_pay38 k0_pay37 k0_pay36 k0_pay35 k0_pay34
    k0_pay33 k0_pay32 k0_pay31 k0_pay30 k0_pay29 k0_pay28 k0_pay27
  frame_out
  exact BlockTags.head24_at _ _ x20 x21 _ (pooled_at h) o

/-- The second output's block is the specified output. -/
theorem out25_at (o : Fin 6) :
    out0_25 (F := Ideal) x0 x1 x2 x3 x4 x5 x6 x7 x8 x9 x10 x11 x12 x13 x14 x15 x16 x17 x18 x19 x20 x21 x22 x23 (ix3 0 0 o)
      = output P X tag (fun c o => x22 (ix2 c o)) (fun o => x23 (ix2 0 o)) o := by
  frame_out
  unfold k0_pay47 k0_pay46 k0_pay45 k0_pay44 k0_pay43 k0_pay42 k0_pay41 k0_pay40 k0_pay39
    k0_pay38 k0_pay37 k0_pay36 k0_pay35 k0_pay34
    k0_pay33 k0_pay32 k0_pay31 k0_pay30 k0_pay29 k0_pay28 k0_pay27
  frame_out
  exact BlockTags.head25_at _ _ x22 x23 _ (pooled_at h) o

end

end Cert.BlockOut

end
-- ==== Proof.Args.lean ====
/-
  The argument arrays read as real numbers, and the two result arrays they specify.
-/
module

public import proofs.«01_k».proof.Proof.Spec
public import proofs.«01_k».proof.KernelIdeal
public import Idealize.ShloMosaic.Lib.Pointwise

@[expose] public section

set_option maxRecDepth 16384

noncomputable section

namespace Cert.Args

open Idealize.ShloMosaic Cert.KernelIdeal Cert.Spec

variable (a0 : FVec Ideal S8x2048x5 .f32) (a1 : IVec S8x2048 32) (a2 : FVec Ideal S5x64 .f32) (a3 : FVec Ideal S64 .f32)
  (a4 : FVec Ideal S64x64 .f32) (a5 : FVec Ideal S64 .f32) (a6 : FVec Ideal S64x64 .f32) (a7 : FVec Ideal S64 .f32)
  (a8 : FVec Ideal S64x64 .f32) (a9 : FVec Ideal S64 .f32) (a10 : FVec Ideal S64x64 .f32) (a11 : FVec Ideal S64 .f32)
  (a12 : FVec Ideal S64x32 .f32) (a13 : FVec Ideal S32 .f32) (a14 : FVec Ideal S32x1 .f32) (a15 : FVec Ideal S1 .f32)
  (a16 : FVec Ideal S64x32 .f32) (a17 : FVec Ideal S32 .f32) (a18 : FVec Ideal S32x1 .f32) (a19 : FVec Ideal S1 .f32)

/-- The arguments hold the real numbers `X` and `P`, and in every batch some tag has a measurement. -/
structure Real (P : Weights) (X : Fin 8 → Fin 2048 → Fin 5 → ℝ) : Prop where
  /-- The measurements. -/
  h0 : ∀ b r i, a0 (ix3 b r i) = (X b r i : EReal)
  /-- The weights and the biases, in the order of the arguments. -/
  h2 : ∀ i c, a2 (ix2 i c) = (P.w1 i c : EReal)
  h3 : ∀ c, a3 (ix1 c) = (P.b1 c : EReal)
  h4 : ∀ i c, a4 (ix2 i c) = (P.w2 i c : EReal)
  h5 : ∀ c, a5 (ix1 c) = (P.b2 c : EReal)
  h6 : ∀ i c, a6 (ix2 i c) = (P.wq i c : EReal)
  h7 : ∀ c, a7 (ix1 c) = (P.bq c : EReal)
  h8 : ∀ i c, a8 (ix2 i c) = (P.wk i c : EReal)
  h9 : ∀ c, a9 (ix1 c) = (P.bk c : EReal)
  h10 : ∀ i c, a10 (ix2 i c) = (P.wv i c : EReal)
  h11 : ∀ c, a11 (ix1 c) = (P.bv c : EReal)
  h12 : ∀ i c, a12 (ix2 i c) = (P.wa i c : EReal)
  h13 : ∀ c, a13 (ix1 c) = (P.ba c : EReal)
  h14 : ∀ i c, a14 (ix2 i c) = (P.wb i c : EReal)
  h15 : ∀ c, a15 (ix1 c) = (P.bb c : EReal)
  h16 : ∀ i c, a16 (ix2 i c) = (P.wc i c : EReal)
  h17 : ∀ c, a17 (ix1 c) = (P.bc c : EReal)
  h18 : ∀ i c, a18 (ix2 i c) = (P.wd i c : EReal)
  h19 : ∀ c, a19 (ix1 c) = (P.bd c : EReal)
  /-- In every batch some tag has a measurement. -/
  hp : ∀ b : Fin 8, ∃ t, Carried (fun r => a1 (ix2 b r)) t

variable (P : Weights) (X : Fin 8 → Fin 2048 → Fin 5 → ℝ)

/-- The first result array: each batch's output by the first head. -/
def result0 (w : FVec Ideal S64x3 .f32) (d : FVec Ideal S3 .f32) : FVec Ideal S8x1x3 .f32 := fun i =>
  output P (X (i 0)) (fun r => a1 (ix2 (i 0) r)) (fun c o => w (ix2 c o)) (fun o => d (ix1 o)) (i 2)

/-- The second result array: each batch's output by the second head. -/
def result1 (w : FVec Ideal S64x6 .f32) (d : FVec Ideal S6 .f32) : FVec Ideal S8x1x6 .f32 := fun i =>
  output P (X (i 0)) (fun r => a1 (ix2 (i 0) r)) (fun c o => w (ix2 c o)) (fun o => d (ix1 o)) (i 2)

end Cert.Args

end
-- ==== Proof.Blocks.lean ====
/-
  The blocks the kernel loads at a grid point, read as the argument arrays.
-/
module

public import Idealize.ShloMosaic.Lib.Pointwise
public import Idealize.ShloMosaic.Lib.Pipeline.ValueKit
public import proofs.«01_k».proof.Proof.Gen.KernelIdeal.Value

@[expose] public section

set_option maxRecDepth 16384

noncomputable section

namespace Cert.Blocks

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The index maps: the measurements, the tags and the two results move with the grid point, -/
theorem idx : ∀ t : Fin cfg0.N, win0_0.index t = ![t.val, 0, 0] ∧ win0_1.index t = ![t.val, 0, 0]
    ∧ win0_24.index t = ![t.val, 0, 0] ∧ win0_25.index t = ![t.val, 0, 0] :=
  (by decide +kernel : ∀ t : Fin grid0.N, _)

/-- and the weights stay: the first half of them, -/
theorem idxA : ∀ t : Fin cfg0.N, win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] :=
  (by decide +kernel : ∀ t : Fin grid0.N, _)

/-- and the second half. -/
theorem idxB : ∀ t : Fin cfg0.N, win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0] :=
  (by decide +kernel : ∀ t : Fin grid0.N, _)

/-- The batch of a grid point. -/
def batch (t : Fin cfg0.N) : Fin 8 := ⟨t.val, t.isLt⟩

/-! Each window's block at a point, as the argument array: the measurements and the tags are one batch of theirs, the
    weights and the biases are whole. -/

theorem blk0 (t : Fin cfg0.N) (r : Fin 2048) (i : Fin 5) :
    (iblk m c 0 t : FVec Ideal S1x2048x5 .f32) (ix3 0 r i) = m ((c : Thread nD τ).loc main_arg0) (ix3 (batch t) r i) := by
  blk_point [iblk, V, idx t, batch]

theorem blk1 (t : Fin cfg0.N) (r : Fin 2048) :
    (iblk m c 1 t : IVec S1x2048x1 32) (ix3 0 r 0) = m ((c : Thread nD τ).loc main_arg1) (ix2 (batch t) r) := by
  blk_point [iblk, V, idx t, batch]

theorem blk2 (t : Fin cfg0.N) (i : Fin 5) (j : Fin 64) :
    (iblk m c 2 t : FVec Ideal S5x64 .f32) (ix2 i j) = m ((c : Thread nD τ).loc main_arg2) (ix2 i j) := by
  blk_point [iblk, V, idxA t]

theorem blk3 (t : Fin cfg0.N) (j : Fin 64) :
    (iblk m c 3 t : FVec Ideal S1x64 .f32) (ix2 0 j) = m ((c : Thread nD τ).loc main_arg3) (ix1 j) := by
  blk_point [iblk, V, idxA t]

theorem blk4 (t : Fin cfg0.N) (i : Fin 64) (j : Fin 64) :
    (iblk m c 4 t : FVec Ideal S64x64 .f32) (ix2 i j) = m ((c : Thread nD τ).loc main_arg4) (ix2 i j) := by
  blk_point [iblk, V, idxA t]

theorem blk5 (t : Fin cfg0.N) (j : Fin 64) :
    (iblk m c 5 t : FVec Ideal S1x64 .f32) (ix2 0 j) = m ((c : Thread nD τ).loc main_arg5) (ix1 j) := by
  blk_point [iblk, V, idxA t]

theorem blk6 (t : Fin cfg0.N) (i : Fin 64) (j : Fin 64) :
    (iblk m c 6 t : FVec Ideal S64x64 .f32) (ix2 i j) = m ((c : Thread nD τ).loc main_arg6) (ix2 i j) := by
  blk_point [iblk, V, idxA t]

theorem blk7 (t : Fin cfg0.N) (j : Fin 64) :
    (iblk m c 7 t : FVec Ideal S1x64 .f32) (ix2 0 j) = m ((c : Thread nD τ).loc main_arg7) (ix1 j) := by
  blk_point [iblk, V, idxA t]

theorem blk8 (t : Fin cfg0.N) (i : Fin 64) (j : Fin 64) :
    (iblk m c 8 t : FVec Ideal S64x64 .f32) (ix2 i j) = m ((c : Thread nD τ).loc main_arg8) (ix2 i j) := by
  blk_point [iblk, V, idxA t]

theorem blk9 (t : Fin cfg0.N) (j : Fin 64) :
    (iblk m c 9 t : FVec Ideal S1x64 .f32) (ix2 0 j) = m ((c : Thread nD τ).loc main_arg9) (ix1 j) := by
  blk_point [iblk, V, idxA t]

theorem blk10 (t : Fin cfg0.N) (i : Fin 64) (j : Fin 64) :
    (iblk m c 10 t : FVec Ideal S64x64 .f32) (ix2 i j) = m ((c : Thread nD τ).loc main_arg10) (ix2 i j) := by
  blk_point [iblk, V, idxA t]

theorem blk11 (t : Fin cfg0.N) (j : Fin 64) :
    (iblk m c 11 t : FVec Ideal S1x64 .f32) (ix2 0 j) = m ((c : Thread nD τ).loc main_arg11) (ix1 j) := by
  blk_point [iblk, V, idxA t]

theorem blk12 (t : Fin cfg0.N) (i : Fin 64) (j : Fin 32) :
    (iblk m c 12 t : FVec Ideal S64x32 .f32) (ix2 i j) = m ((c : Thread nD τ).loc main_arg12) (ix2 i j) := by
  blk_point [iblk, V, idxA t]

theorem blk13 (t : Fin cfg0.N) (j : Fin 32) :
    (iblk m c 13 t : FVec Ideal S1x32 .f32) (ix2 0 j) = m ((c : Thread nD τ).loc main_arg13) (ix1 j) := by
  blk_point [iblk, V, idxB t]

theorem blk14 (t : Fin cfg0.N) (i : Fin 32) (j : Fin 1) :
    (iblk m c 14 t : FVec Ideal S32x1 .f32) (ix2 i j) = m ((c : Thread nD τ).loc main_arg14) (ix2 i j) := by
  blk_point [iblk, V, idxB t]

theorem blk15 (t : Fin cfg0.N) (j : Fin 1) :
    (iblk m c 15 t : FVec Ideal S1x1 .f32) (ix2 0 j) = m ((c : Thread nD τ).loc main_arg15) (ix1 j) := by
  blk_point [iblk, V, idxB t]

theorem blk16 (t : Fin cfg0.N) (i : Fin 64) (j : Fin 32) :
    (iblk m c 16 t : FVec Ideal S64x32 .f32) (ix2 i j) = m ((c : Thread nD τ).loc main_arg16) (ix2 i j) := by
  blk_point [iblk, V, idxB t]

theorem blk17 (t : Fin cfg0.N) (j : Fin 32) :
    (iblk m c 17 t : FVec Ideal S1x32 .f32) (ix2 0 j) = m ((c : Thread nD τ).loc main_arg17) (ix1 j) := by
  blk_point [iblk, V, idxB t]

theorem blk18 (t : Fin cfg0.N) (i : Fin 32) (j : Fin 1) :
    (iblk m c 18 t : FVec Ideal S32x1 .f32) (ix2 i j) = m ((c : Thread nD τ).loc main_arg18) (ix2 i j) := by
  blk_point [iblk, V, idxB t]

theorem blk19 (t : Fin cfg0.N) (j : Fin 1) :
    (iblk m c 19 t : FVec Ideal S1x1 .f32) (ix2 0 j) = m ((c : Thread nD τ).loc main_arg19) (ix1 j) := by
  blk_point [iblk, V, idxB t]

theorem blk20 (t : Fin cfg0.N) (i : Fin 64) (j : Fin 3) :
    (iblk m c 20 t : FVec Ideal S64x3 .f32) (ix2 i j) = m ((c : Thread nD τ).loc main_arg20) (ix2 i j) := by
  blk_point [iblk, V, idxB t]

theorem blk21 (t : Fin cfg0.N) (j : Fin 3) :
    (iblk m c 21 t : FVec Ideal S1x3 .f32) (ix2 0 j) = m ((c : Thread nD τ).loc main_arg21) (ix1 j) := by
  blk_point [iblk, V, idxB t]

theorem blk22 (t : Fin cfg0.N) (i : Fin 64) (j : Fin 6) :
    (iblk m c 22 t : FVec Ideal S64x6 .f32) (ix2 i j) = m ((c : Thread nD τ).loc main_arg22) (ix2 i j) := by
  blk_point [iblk, V, idxB t]

theorem blk23 (t : Fin cfg0.N) (j : Fin 6) :
    (iblk m c 23 t : FVec Ideal S1x6 .f32) (ix2 0 j) = m ((c : Thread nD τ).loc main_arg23) (ix1 j) := by
  blk_point [iblk, V, idxB t]

end Cert.Blocks

end
-- ==== Proof.Final.lean ====
/-
  What the kernel's result arrays hold after the run: the specified output of each batch.
-/
module

public import proofs.«01_k».proof.Proof.BlockOut
public import proofs.«01_k».proof.Proof.Args
public import proofs.«01_k».proof.Proof.Blocks
public import proofs.«01_k».proof.Proof.Gen.KernelIdeal.Value

@[expose] public section

set_option maxRecDepth 16384

noncomputable section

namespace Cert.Final

open Idealize.ShloMosaic Idealize.ShloMosaic.TcCoe Idealize.SL.Sem
open Idealize.ShloMosaic.Pipeline (Dat)
open Cert.KernelIdeal Cert.KernelIdeal.Gen Cert.Spec Cert.Blocks

variable (m : (ℓ : Loc nD τ sig) → Buf (Elt Ideal) ℓ) (c : Dev nD)

variable {P : Weights} {X : Fin 8 → Fin 2048 → Fin 5 → ℝ}

/-- Device `c`'s argument arrays hold the real numbers `P` and `X`, and every batch has a tag. -/
abbrev ArgsReal (P : Weights) (X : Fin 8 → Fin 2048 → Fin 5 → ℝ) : Prop :=
  Args.Real (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) P X

variable {m c}
variable (h : ArgsReal m c P X)

include h

/-- The blocks loaded at a point hold that batch's real numbers and tags. -/
theorem holds (t : Fin cfg0.N) :
    BlockOut.Holds (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) P (X (batch t)) (fun r => m ((c : Thread nD τ).loc main_arg1) (ix2 (batch t) r)) where
  h0 r i := (blk0 m c t r i).trans (h.h0 _ r i)
  h1 r := blk1 m c t r
  h2 i j := (blk2 m c t i j).trans (h.h2 i j)
  h3 j := (blk3 m c t j).trans (h.h3 j)
  h4 i j := (blk4 m c t i j).trans (h.h4 i j)
  h5 j := (blk5 m c t j).trans (h.h5 j)
  h6 i j := (blk6 m c t i j).trans (h.h6 i j)
  h7 j := (blk7 m c t j).trans (h.h7 j)
  h8 i j := (blk8 m c t i j).trans (h.h8 i j)
  h9 j := (blk9 m c t j).trans (h.h9 j)
  h10 i j := (blk10 m c t i j).trans (h.h10 i j)
  h11 j := (blk11 m c t j).trans (h.h11 j)
  h12 i j := (blk12 m c t i j).trans (h.h12 i j)
  h13 j := (blk13 m c t j).trans (h.h13 j)
  h14 i j := (blk14 m c t i j).trans (h.h14 i j)
  h15 j := (blk15 m c t j).trans (h.h15 j)
  h16 i j := (blk16 m c t i j).trans (h.h16 i j)
  h17 j := (blk17 m c t j).trans (h.h17 j)
  h18 i j := (blk18 m c t i j).trans (h.h18 i j)
  h19 j := (blk19 m c t j).trans (h.h19 j)
  hp := h.hp (batch t)

/-- What a point stores for the first result is its batch's row of that result. -/
theorem point0 (t : Fin cfg0.N) (o : Fin 3) :
    out0_24 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (iblk m c 20 t) (iblk m c 21 t) (iblk m c 22 t) (iblk m c 23 t) (ix3 0 0 o)
      = Args.result0 (m ((c : Thread nD τ).loc main_arg1)) P X (m ((c : Thread nD τ).loc main_arg20)) (m ((c : Thread nD τ).loc main_arg21)) (ix3 (batch t) 0 o) := by
  refine (BlockOut.out24_at _ _ _ _ (holds h t) o).trans ?_
  simp only [blk20, blk21]
  rfl

/-- The first result array after the run. -/
theorem final0 : (dats m 0 c).arrAt 24 cfg0.N
    = Args.result0 (m ((c : Thread nD τ).loc main_arg1)) P X (m ((c : Thread nD τ).loc main_arg20)) (m ((c : Thread nD τ).loc main_arg21)) := by
  refine (dats m 0 c).arrAt_eq_of_covers 24 _ (by decide +kernel) fun t _ y => ?_
  blk_simp
  rw [after0_24]
  obtain ⟨o, rfl⟩ : ∃ o : Fin 3, y = ix3 0 0 o := ⟨y 2, by blk_ext⟩
  rw [point0 h t o]
  congr 1
  blk_ext [idx t, batch]

/-- What a point stores for the second result is its batch's row of that result. -/
theorem point1 (t : Fin cfg0.N) (o : Fin 6) :
    out0_25 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (iblk m c 20 t) (iblk m c 21 t) (iblk m c 22 t) (iblk m c 23 t) (ix3 0 0 o)
      = Args.result1 (m ((c : Thread nD τ).loc main_arg1)) P X (m ((c : Thread nD τ).loc main_arg22)) (m ((c : Thread nD τ).loc main_arg23)) (ix3 (batch t) 0 o) := by
  refine (BlockOut.out25_at _ _ _ _ (holds h t) o).trans ?_
  simp only [blk22, blk23]
  rfl

/-- The second result array after the run. -/
theorem final1 : (dats m 0 c).arrAt 25 cfg0.N
    = Args.result1 (m ((c : Thread nD τ).loc main_arg1)) P X (m ((c : Thread nD τ).loc main_arg22)) (m ((c : Thread nD τ).loc main_arg23)) := by
  refine (dats m 0 c).arrAt_eq_of_covers 25 _ (by decide +kernel) fun t _ y => ?_
  blk_simp
  rw [after0_25]
  obtain ⟨o, rfl⟩ : ∃ o : Fin 6, y = ix3 0 0 o := ⟨y 2, by blk_ext⟩
  rw [point1 h t o]
  congr 1
  blk_ext [idx t, batch]

end Cert.Final

end
-- ==== Proof.Rows.lean ====
/-
  Folds over the last axis of an array on the host, maximum and `or`, at any extents.
-/
module

public import proofs.«01_k».proof.Proof.Scalars
public import Idealize.ShloMosaic.Lib.Pointwise
public import Idealize.ShloMosaic.Lib.Routing.OpsOrder

@[expose] public section

noncomputable section

namespace Cert.Rows

open Idealize.ShloMosaic Cert.Scalars

/-- The maximum over the last of three axes, from −∞: the maximum of the row. -/
theorem max3_at {n0 n1 n2 : ℕ} {u : Shape} (x : FVec Ideal ⟨3, ![n0, n1, n2]⟩ .f32)
    (h : (⟨3, ![n0, n1, n2]⟩ : Shape).ReducesTo [2] ⟨2, ![n0, n1]⟩) (hu : 0 < u.numel) (b : Fin n0) (r : Fin n1)
    (f : Fin n2 → EReal) (hf : ∀ j, x (ix3 b r j) = f j) :
    Host.reduce (FloatOps.maximumf (F := Ideal) (φ := .f32)) x (constant u .f32 0xFF800000#32) h hu (ix2 b r)
      = Finset.univ.fold max ⊥ f := by
  pointwise [hf, ofBits_neg_inf]

/-- The disjunction of bits over the last of three axes: the disjunction of the row. -/
theorem or3_at {n0 n1 n2 : ℕ} {u : Shape} (x : IVec ⟨3, ![n0, n1, n2]⟩ 1)
    (h : (⟨3, ![n0, n1, n2]⟩ : Shape).ReducesTo [2] ⟨2, ![n0, n1]⟩) (hu : 0 < u.numel) (b : Fin n0) (r : Fin n1)
    (f : Fin n2 → BitVec 1) (hf : ∀ j, x (ix3 b r j) = f j) :
    Host.reduce IntOp.ori x (constantI u 1 0#1) h hu (ix2 b r) = Finset.univ.fold IntOp.ori 0#1 f := by
  pointwise [hf]

/-- The last axis of a two-axis array folded by `or` from the zero bit. -/
theorem or2_at {n0 n1 : ℕ} {u : Shape} (x : IVec ⟨2, ![n0, n1]⟩ 1) (h : (⟨2, ![n0, n1]⟩ : Shape).ReducesTo [1] ⟨1, ![n0]⟩)
    (hu : 0 < u.numel) (b : Fin n0) (f : Fin n1 → BitVec 1) (hf : ∀ j, x (ix2 b j) = f j) :
    Host.reduce IntOp.ori x (constantI u 1 0#1) h hu (ix1 b) = Finset.univ.fold IntOp.ori 0#1 f := by
  pointwise [hf]

/-- Bits that say whether a property holds, folded by `or`, say whether it holds somewhere. -/
theorem fold_ori_if {n : ℕ} (p : Fin n → Prop) [DecidablePred p] [Decidable (∃ i, p i)] :
    Finset.univ.fold IntOp.ori 0#1 (fun i => if p i then 1#1 else 0#1) = if ∃ i, p i then 1#1 else 0#1 := by
  by_cases h : ∃ i, p i
  · rw [if_pos h]
    exact (Routing.fold_ori _ _).mpr (h.imp fun i hi => ⟨Finset.mem_univ i, if_pos hi⟩)
  · rw [if_neg h]
    have hne : ¬Finset.univ.fold IntOp.ori 0#1 (fun i => if p i then 1#1 else 0#1) = 1#1 := fun hf => by
      obtain ⟨i, -, hi⟩ := (Routing.fold_ori _ _).mp hf
      exact absurd ((if_neg fun hp => h ⟨i, hp⟩).symm.trans hi) (by decide)
    generalize Finset.univ.fold IntOp.ori 0#1 (fun i => if p i then 1#1 else 0#1) = z at hne
    revert hne
    revert z
    decide

/-- A coordinate carried through two broadcasts that keep its axis is the coordinate. -/
theorem coord_kept {n : ℕ} (r : Fin n) (p : n = 1 → 0 < n) (q : n = 1 → 0 < n) :
    (if h : n = 1 then (⟨0, p h⟩ : Fin n) else ⟨(if h : n = 1 then (⟨0, q h⟩ : Fin n) else r).val, Fin.isLt _⟩).val = r.val := by
  have := r.isLt
  by_cases hn : n = 1
  · rw [dif_pos hn]
    show 0 = r.val
    omega
  · rw [dif_neg hn]
    show (dite _ _ _ : Fin n).val = r.val
    rw [dif_neg hn]

/-- The exponentials of the rows of an array, each less a number of the row not below −∞. -/
theorem exp_sub_at {n0 n1 n2 : ℕ} (x : FVec Ideal ⟨3, ![n0, n1, n2]⟩ .f32) (m : FVec Ideal ⟨2, ![n0, n1]⟩ .f32)
    (h0 : (⟨0, ![]⟩ : Shape).BroadcastsInDim ⟨2, ![n0, n1]⟩ (![] : Fin 0 → Fin 2))
    (h1 : (⟨2, ![n0, n1]⟩ : Shape).BroadcastsInDim ⟨3, ![n0, n1, 1]⟩ (![0, 1] : Fin 2 → Fin 3))
    (h2 : (⟨3, ![n0, n1, 1]⟩ : Shape).BroadcastsInDim ⟨3, ![n0, n1, n2]⟩ (![0, 1, 2] : Fin 3 → Fin 3))
    (b : Fin n0) (r : Fin n1) (j : Fin n2) (y z : EReal) (hx : x (ix3 b r j) = z) (hm : m (ix2 b r) = y) :
    Host.exp (subf x (broadcastInDim ⟨3, ![n0, n1, n2]⟩ ![0, 1, 2] h2 (broadcastInDim ⟨3, ![n0, n1, 1]⟩ ![0, 1] h1
      (maximumf (broadcastInDim ⟨2, ![n0, n1]⟩ ![] h0 (constant ⟨0, ![]⟩ .f32 0xFF800000#32)) m)))) (ix3 b r j)
      = Ideal.exp (z - y) := by
  pointwise [hx, hm, ofBits_neg_inf]
  rw [max_eq_right bot_le, ← hm]
  congr 3
  funext a
  refine Fin.ext ?_
  fin_cases a
  · exact coord_kept b _ _
  · exact coord_kept r _ _

end Cert.Rows

end
-- ==== Proof.Reference.lean ====
/-
  What the reference computes, read at an index: its stages are the specified ones.
-/
module

public import proofs.«01_k».proof.Proof.Args
public import proofs.«01_k».proof.Proof.Gen.ReferenceIdeal.Run
public import Idealize.ShloMosaic.Lib.Pointwise
public import proofs.«01_k».proof.Proof.Rows
public import proofs.«01_k».proof.Proof.BlockTags
public import Idealize.ShloMosaic.Lib.Routing.OpsOrder
public import Idealize.ShloMosaic.Lib.Tactic.CleanTypes
public import Idealize.ShloMosaic.Lib.Routing.OpsOrder

@[expose] public section

set_option maxRecDepth 16384

noncomputable section

namespace Cert.Reference

open Idealize.ShloMosaic Idealize.ShloMosaic.TcCoe Idealize.SL.Sem Idealize.ShloMosaic.StableHlo
open Cert.ReferenceIdeal Cert.ReferenceIdeal.Gen Cert.ReferenceIdeal.Value Cert.Scalars Cert.Spec

/-- The root of 64. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The maxima of the rows of the scores. -/
def maxScore (x : FVec Ideal S8x2048x2048 .f32) : FVec Ideal S8x2048 .f32 :=
  Host.reduce (FloatOps.maximumf (F := Ideal) (φ := .f32)) x (constant S_ .f32 0xFF800000#32) reducesTo_S8x2048x2048_S8x2048_d2 h_S_

/-- The maxima of the rows of the masked logits. -/
def maxTag (x : FVec Ideal S8x64x2048 .f32) : FVec Ideal S8x64 .f32 :=
  Host.reduce (FloatOps.maximumf (F := Ideal) (φ := .f32)) x (constant S_ .f32 0xFF800000#32) reducesTo_S8x64x2048_S8x64_d2 h_S_

/-- The exponentials of an array of scores less the maxima of its rows. -/
def expScore (x : FVec Ideal S8x2048x2048 .f32) : FVec Ideal S8x2048x2048 .f32 :=
  Host.exp (subf x (broadcastInDim S8x2048x2048 ![0, 1, 2] bcast_S8x2048x1_S8x2048x2048_0_1_2 (broadcastInDim S8x2048x1 ![0, 1]
    bcast_S8x2048_S8x2048x1_0_1 (maximumf (broadcastInDim S8x2048 ![] bcast_S_S8x2048 (constant S_ .f32 0xFF800000#32)) (maxScore x)))))

/-- The exponentials of an array of masked logits less the maxima of its rows. -/
def expTag (x : FVec Ideal S8x64x2048 .f32) : FVec Ideal S8x64x2048 .f32 :=
  Host.exp (subf x (broadcastInDim S8x64x2048 ![0, 1, 2] bcast_S8x64x1_S8x64x2048_0_1_2 (broadcastInDim S8x64x1 ![0, 1]
    bcast_S8x64_S8x64x1_0_1 (maximumf (broadcastInDim S8x64 ![] bcast_S_S8x64 (constant S_ .f32 0xFF800000#32)) (maxTag x)))))

/-- The exponentials of a row of scores, at an index. -/
theorem expScore_at (x : FVec Ideal S8x2048x2048 .f32) (b : Fin 8) (r : Fin 2048) (f : Fin 2048 → EReal)
    (hf : ∀ j, x (ix3 b r j) = f j) (j : Fin 2048) :
    expScore x (ix3 b r j) = Ideal.exp (f j - Finset.univ.fold max ⊥ f) :=
  Rows.exp_sub_at x (maxScore x) _ _ _ b r j _ _ (hf j) (Rows.max3_at x _ _ b r f hf)

/-- The exponentials of a row of masked logits, at an index. -/
theorem expTag_at (x : FVec Ideal S8x64x2048 .f32) (b : Fin 8) (r : Fin 64) (f : Fin 2048 → EReal)
    (hf : ∀ j, x (ix3 b r j) = f j) (j : Fin 2048) :
    expTag x (ix3 b r j) = Ideal.exp (f j - Finset.univ.fold max ⊥ f) :=
  Rows.exp_sub_at x (maxTag x) _ _ _ b r j _ _ (hf j) (Rows.max3_at x _ _ b r f hf)

variable (V0 : Valuation τ sig (Elt Ideal))
variable {P : Weights} {X : Fin 8 → Fin 2048 → Fin 5 → ℝ}

/-- The reference's arguments hold the real numbers `P` and `X`, and every batch has a tag. -/
abbrev ArgsReal (P : Weights) (X : Fin 8 → Fin 2048 → Fin 5 → ℝ) : Prop :=
  Args.Real (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) (V0 (Proc.devRef .tc main_arg17))
    (V0 (Proc.devRef .tc main_arg18)) (V0 (Proc.devRef .tc main_arg19)) P X

/-- The tags of a batch's measurements. -/
abbrev tagOf (b : Fin 8) : Fin 2048 → BitVec 32 := fun r => (V0 (Proc.devRef .tc main_arg1) : IVec S8x2048 32) (ix2 b r)

variable {V0}
variable (h : ArgsReal V0 P X)

include h

/-- The features. -/
theorem feats_at (b : Fin 8) (r : Fin 2048) (c : Fin 64) :
    (res_main_v11 V0 : FVec Ideal S8x2048x64 .f32) (ix3 b r c) = (feats P (X b) r c : EReal) := by
  unfold res_main_v11
  pointwise [h.h0, h.h2, h.h3, h.h4, h.h5]
  simp only [← EReal.coe_mul, sum_coe, ← EReal.coe_add, max_zero_coe]
  rfl

/-- The scores. -/
theorem score_at (b : Fin 8) (r j : Fin 2048) :
    (res_main_v27 V0 : FVec Ideal S8x2048x2048 .f32) (ix3 b r j)
      = (score (lin (feats P (X b)) P.wq P.bq) (lin (feats P (X b)) P.wk P.bk) r j : EReal) := by
  unfold res_main_v27
  pointwise [feats_at h, h.h6, h.h7, h.h8, h.h9, ofBits_64]
  rw [sqrt_64]
  simp only [← EReal.coe_mul, sum_coe, ← EReal.coe_add]
  exact div_coe_coe _ _ (by norm_num)

omit h in
/-- The named exponentials of the scores are those of the scores. -/
theorem v34_eq : res_main_v34 V0 = expScore (res_main_v27 V0) := rfl

/-- The features after attention. -/
theorem attended_at (b : Fin 8) (r : Fin 2048) (c : Fin 64) :
    (res_main_v40 V0 : FVec Ideal S8x2048x64 .f32) (ix3 b r c) = (attended P (X b) r c : EReal) := by
  have he := expScore_at _ b r _ (score_at h b r)
  unfold res_main_v40
  rw [v34_eq]
  generalize expScore (res_main_v27 V0) = E at he
  pointwise [he, feats_at h, h.h10, h.h11]
  obtain ⟨m, hm⟩ := fold_max_coe Finset.univ
    (fun j => score (lin (feats P (X b)) P.wq P.bq) (lin (feats P (X b)) P.wk P.bk) r j) Finset.univ_nonempty
  simp only [hm, ← EReal.coe_mul, sum_coe, ← EReal.coe_add]
  rw [wmean_exp, ← EReal.coe_add]
  rfl

omit h in
/-- The named exponentials of the masked logits are those of the masked logits. -/
theorem v66_eq : res_main_v66 V0 = expTag (res_main_v59 V0) := rfl

omit h in
/-- The bit that says whether a measurement carries a tag. -/
theorem mask_at (b : Fin 8) (t : Fin 64) (r : Fin 2048) :
    (res_main_v57 V0 : IVec S8x64x2048 1) (ix3 b t r)
      = if (V0 (Proc.devRef .tc main_arg1) : IVec S8x2048 32) (ix2 b r) = BitVec.ofNat 32 t then 1#1 else 0#1 := by
  unfold res_main_v57
  pointwise
  exact BlockTags.cmpi_eq_if _ _

/-- The masked logits: a measurement's logit under its own tag and −∞ under the others. -/
theorem masked_at (b : Fin 8) (t : Fin 64) (r : Fin 2048) :
    (res_main_v59 V0 : FVec Ideal S8x64x2048 .f32) (ix3 b t r)
      = if (V0 (Proc.devRef .tc main_arg1) : IVec S8x2048 32) (ix2 b r) = BitVec.ofNat 32 t then (logits P (X b) r : EReal) else ⊥ := by
  unfold res_main_v59
  pointwise [mask_at, attended_at h, h.h12, h.h13, h.h14, h.h15, ofBits_neg_inf]
  rw [BlockTags.select_if]
  have hi : id (constant (F := Ideal) S_ .f32 0xFF800000#32) ix0 = ⊥ := ofBits_neg_inf
  rw [hi]
  simp only [← EReal.coe_mul, sum_coe, ← EReal.coe_add, max_zero_coe]
  rfl

/-- The features of the tags. -/
theorem tags_at (b : Fin 8) (t c : Fin 64) :
    (res_main_v72 V0 : FVec Ideal S8x64x64 .f32) (ix3 b t c) = (tags P (X b) (tagOf V0 b) t c : EReal) := by
  have he := expTag_at _ b t _ (masked_at h b t)
  unfold res_main_v72
  rw [v66_eq]
  generalize expTag (res_main_v59 V0) = E at he
  pointwise [he, mask_at, attended_at h]
  have hi : id (constant (F := Ideal) S_ .f32 0x00000000#32) ix0 = 0 := by simp [constant, Ideal.ofBits, Ideal.ieee]
  simp only [BlockTags.select_if, hi]
  by_cases ht : ∃ r, tagOf V0 b r = BitVec.ofNat 32 t
  · obtain ⟨m, hm⟩ := fold_max_on (fun r => tagOf V0 b r = BitVec.ofNat 32 t) (logits P (X b)) ht
    rw [hm]
    exact wmeanOn_exp _ _ _ ht m
  · have h0 : tags P (X b) (tagOf V0 b) t c = 0 :=
      wmeanOn_none (fun r => tagOf V0 b r = BitVec.ofNat 32 t) (logits P (X b)) (fun r => attended P (X b) r c) ht
    rw [h0]
    refine Finset.sum_eq_zero (M := EReal) fun r _ => ?_
    rw [if_neg fun hr => ht ⟨r, hr⟩, zero_mul]

omit h in
/-- The bit that says whether a tag has a measurement. -/
theorem present_at (b : Fin 8) (t : Fin 64) :
    Host.reduce IntOp.ori (res_main_v57 V0 : IVec S8x64x2048 1) (constantI S_ 1 0#1) reducesTo_S8x64x2048_S8x64_d2 h_S_ (ix2 b t)
      = if Carried (tagOf V0 b) t then 1#1 else 0#1 := by
  refine (Rows.or3_at _ _ _ b t _ (mask_at b t)).trans ((Rows.fold_ori_if _).trans ?_)
  unfold Carried
  congr

/-- The tags' logits, −∞ for those that no measurement carries. -/
theorem tagLogit_at (b : Fin 8) (t : Fin 64) :
    (res_main_v85 V0 : FVec Ideal S8x64 .f32) (ix2 b t)
      = if Carried (tagOf V0 b) t then (tagLogits P (X b) (tagOf V0 b) t : EReal) else ⊥ := by
  have hp := present_at (V0 := V0) b t
  unfold res_main_v85
  generalize Host.reduce IntOp.ori _ _ _ _ = p at hp
  pointwise [hp, tags_at h, h.h16, h.h17, h.h18, h.h19]
  have hi : id (constant (F := Ideal) S_ .f32 0xFF800000#32) ix0 = ⊥ := ofBits_neg_inf
  rw [BlockTags.select_if, hi]
  exact congrArg (fun z : EReal => if Carried (tagOf V0 b) t then z else ⊥) (BlockTags.ownLogit_coe _ _ _ _ _ t)

/-- The pooled features of each batch. -/
theorem pooled_at (b : Fin 8) (c : Fin 64) :
    (res_main_v97 V0 : FVec Ideal S8x64 .f32) (ix2 b c) = (pooled P (X b) (tagOf V0 b) c : EReal) := by
  unfold res_main_v97 res_main_v92
  clean_types
  pointwise [tagLogit_at h, tags_at h, ofBits_neg_inf]
  simp only [max_eq_right bot_le]
  obtain ⟨m, hm⟩ := fold_max_on (Carried (tagOf V0 b)) (tagLogits P (X b) (tagOf V0 b)) (h.hp b)
  rw [hm]
  exact wmeanOn_any _ _ _ (h.hp b) m _ fun _ _ => rfl

/-- The first head on the pooled features, as the reference writes it. -/
def out0 (p : FVec Ideal S8x64 .f32) (w : FVec Ideal S64x3 .f32) (d : FVec Ideal S3 .f32) : FVec Ideal S8x1x3 .f32 :=
  broadcastInDim S8x1x3 ![0, 2] bcast_S8x3_S8x1x3_0_2 (addf (Host.dotGeneral dot_S8x64_S64x3_S8x3_1_0_0_1_n_n none p w)
    (broadcastInDim S8x3 ![0, 1] bcast_S1x3_S8x3_0_1 (broadcastInDim S1x3 ![1] bcast_S3_S1x3_1 d)))

omit h in
/-- The first head of a batch, at an index. -/
theorem out0_at (p : FVec Ideal S8x64 .f32) (w : FVec Ideal S64x3 .f32) (d : FVec Ideal S3 .f32) (b : Fin 8) {f : Fin 64 → EReal}
    (hf : ∀ c, p (ix2 b c) = f c) (o : Fin 3) :
    out0 p w d (ix3 b 0 o) = head f (fun c o => w (ix2 c o)) (fun o => d (ix1 o)) o := by
  pointwise [out0, hf, head]

/-- The first result is the specified one. -/
theorem result0_eq :
    out0 (res_main_v97 V0) (V0 (Proc.devRef .tc main_arg20)) (V0 (Proc.devRef .tc main_arg21))
      = Args.result0 (V0 (Proc.devRef .tc main_arg1)) P X (V0 (Proc.devRef .tc main_arg20)) (V0 (Proc.devRef .tc main_arg21)) := by
  refine funext fun i => ?_
  have hi : i = ix3 (i 0) 0 (i 2) := by
    funext a
    fin_cases a
    · rfl
    · exact Subsingleton.elim (α := Fin 1) _ _
    · rfl
  rw [hi]
  refine (out0_at _ _ _ _ (pooled_at h (i 0)) (i 2)).trans ?_
  rfl

/-- The second head on the pooled features, as the reference writes it. -/
def out1 (p : FVec Ideal S8x64 .f32) (w : FVec Ideal S64x6 .f32) (d : FVec Ideal S6 .f32) : FVec Ideal S8x1x6 .f32 :=
  broadcastInDim S8x1x6 ![0, 2] bcast_S8x6_S8x1x6_0_2 (addf (Host.dotGeneral dot_S8x64_S64x6_S8x6_1_0_0_1_n_n none p w)
    (broadcastInDim S8x6 ![0, 1] bcast_S1x6_S8x6_0_1 (broadcastInDim S1x6 ![1] bcast_S6_S1x6_1 d)))

omit h in
/-- The second head of a batch, at an index. -/
theorem out1_at (p : FVec Ideal S8x64 .f32) (w : FVec Ideal S64x6 .f32) (d : FVec Ideal S6 .f32) (b : Fin 8) {f : Fin 64 → EReal}
    (hf : ∀ c, p (ix2 b c) = f c) (o : Fin 6) :
    out1 p w d (ix3 b 0 o) = head f (fun c o => w (ix2 c o)) (fun o => d (ix1 o)) o := by
  pointwise [out1, hf, head]

/-- The second result is the specified one. -/
theorem result1_eq :
    out1 (res_main_v97 V0) (V0 (Proc.devRef .tc main_arg22)) (V0 (Proc.devRef .tc main_arg23))
      = Args.result1 (V0 (Proc.devRef .tc main_arg1)) P X (V0 (Proc.devRef .tc main_arg22)) (V0 (Proc.devRef .tc main_arg23)) := by
  refine funext fun i => ?_
  have hi : i = ix3 (i 0) 0 (i 2) := by
    funext a
    fin_cases a
    · rfl
    · exact Subsingleton.elim (α := Fin 1) _ _
    · rfl
  rw [hi]
  refine (out1_at _ _ _ _ (pooled_at h (i 0)) (i 2)).trans ?_
  rfl

end Cert.Reference

end
-- ==== Proof.Pre.lean ====
/-
  What the precondition says of the arguments: they hold real numbers, and in every batch some tag has a measurement.
-/
module

public import proofs.«01_k».proof.Defs
public import proofs.«01_k».proof.Proof.Gen.Pre_some_tag_present_and_finite
public import proofs.«01_k».proof.Proof.Args
public import proofs.«01_k».proof.Proof.Rows
public import proofs.«01_k».proof.Proof.BlockTags
public import Idealize.ShloMosaic.Lib.Routing.OpsOrder

@[expose] public section

set_option maxRecDepth 16384

noncomputable section

namespace Cert.Pre

open Idealize.ShloMosaic Idealize.ShloMosaic.TcCoe Idealize.SL.Sem
open Cert.Scalars Cert.Spec
open Cert.Pre_some_tag_present_and_finite Cert.Pre_some_tag_present_and_finite.Gen

/-- An extended real of size below `⊤` is a real number. -/
theorem eq_toReal (x : EReal) (h : max x (-x) < ⊤) : x = (x.toReal : EReal) := by
  refine (EReal.coe_toReal ?_ ?_).symm
  · rintro rfl
    simp at h
  · rintro rfl
    simp at h

/-- An array whose entries are all of size below `⊤` holds real numbers. -/
theorem real_of {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    x i = ((x i).toReal : EReal) := by
  have hi := congrFun h i
  refine eq_toReal _ ?_
  have hi' : BitVec.ofBool (decide (max (x i) (-x i) < Ideal.ofBits .f32 0x7F800000#32)) = 1#1 := hi
  rw [ofBits_inf] at hi'
  by_contra hn
  simp [hn] at hi'

/-- A batch of which some measurement's tag is at least 0 and below 64 has one of the 64 tags. -/
theorem present_of (a1 : IVec S8x2048 32)
    (h : Host.reduce IntOp.ori (andi (cmpi .sge a1 (broadcastInDim S8x2048 ![] bcast_S_S8x2048 (constantI S_ 32 0#32)))
        (cmpi .slt a1 (broadcastInDim S8x2048 ![] bcast_S_S8x2048 (constantI S_ 32 64#32))))
      (constantI S_ 1 0#1) reducesTo_S8x2048_S8_d1 h_S_ = fun _ => 1#1) (b : Fin 8) :
    ∃ t : Fin 64, ∃ r : Fin 2048, a1 (ix2 b r) = BitVec.ofNat 32 t := by
  have hm : ∀ r : Fin 2048, andi (cmpi .sge a1 (broadcastInDim S8x2048 ![] bcast_S_S8x2048 (constantI S_ 32 0#32)))
        (cmpi .slt a1 (broadcastInDim S8x2048 ![] bcast_S_S8x2048 (constantI S_ 32 64#32))) (ix2 b r)
      = IntOp.andi (BitVec.ofBool ((0#32).sle (a1 (ix2 b r)))) (BitVec.ofBool ((a1 (ix2 b r)).slt 64#32)) := fun _ => rfl
  have hr := (Rows.or2_at _ reducesTo_S8x2048_S8_d1 h_S_ b _ hm).symm.trans (congrFun h (ix1 b))
  obtain ⟨r, -, hr⟩ := (Routing.fold_ori _ _).mp hr
  have hr' : (0#32).sle (a1 (ix2 b r)) = true ∧ (a1 (ix2 b r)).slt 64#32 = true := by
    revert hr
    generalize (0#32).sle (a1 (ix2 b r)) = p
    generalize (a1 (ix2 b r)).slt 64#32 = q
    revert p q
    decide
  have h0 := hr'.1
  have h64 := hr'.2
  simp only [BitVec.sle_eq_decide, BitVec.slt_eq_decide, decide_eq_true_eq, BitVec.toInt_eq_toNat_cond, BitVec.toNat_ofNat] at h0 h64
  have hlt : (a1 (ix2 b r)).toNat < 64 := by
    have hw := (a1 (ix2 b r)).isLt
    split_ifs at h0 h64 <;> omega
  exact ⟨⟨_, hlt⟩, r, by simp⟩

/-- The weights an argument list holds, as real numbers. -/
def weights (a2 : FVec Ideal S5x64 .f32) (a3 : FVec Ideal S64 .f32)
    (a4 : FVec Ideal S64x64 .f32) (a5 : FVec Ideal S64 .f32) (a6 : FVec Ideal S64x64 .f32) (a7 : FVec Ideal S64 .f32)
    (a8 : FVec Ideal S64x64 .f32) (a9 : FVec Ideal S64 .f32) (a10 : FVec Ideal S64x64 .f32) (a11 : FVec Ideal S64 .f32)
    (a12 : FVec Ideal S64x32 .f32) (a13 : FVec Ideal S32 .f32) (a14 : FVec Ideal S32x1 .f32) (a15 : FVec Ideal S1 .f32)
    (a16 : FVec Ideal S64x32 .f32) (a17 : FVec Ideal S32 .f32) (a18 : FVec Ideal S32x1 .f32) (a19 : FVec Ideal S1 .f32) : Weights where
  w1 i c := (a2 (ix2 i c)).toReal
  b1 c := (a3 (ix1 c)).toReal
  w2 i c := (a4 (ix2 i c)).toReal
  b2 c := (a5 (ix1 c)).toReal
  wq i c := (a6 (ix2 i c)).toReal
  bq c := (a7 (ix1 c)).toReal
  wk i c := (a8 (ix2 i c)).toReal
  bk c := (a9 (ix1 c)).toReal
  wv i c := (a10 (ix2 i c)).toReal
  bv c := (a11 (ix1 c)).toReal
  wa i c := (a12 (ix2 i c)).toReal
  ba c := (a13 (ix1 c)).toReal
  wb i c := (a14 (ix2 i c)).toReal
  bb c := (a15 (ix1 c)).toReal
  wc i c := (a16 (ix2 i c)).toReal
  bc c := (a17 (ix1 c)).toReal
  wd i c := (a18 (ix2 i c)).toReal
  bd c := (a19 (ix1 c)).toReal

open Cert.KernelIdeal in
/-- Under the precondition every device's arguments hold real numbers, and every batch has a tag. -/
theorem args_real (m : (ℓ : Loc nD τ sig) → Buf (Elt Ideal) ℓ) (h : Pre_KernelIdeal_some_tag_present_and_finite m) (c : Dev nD) :
    ∃ P X, Args.Real (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16))
      (m ((c : Thread nD τ).loc main_arg17)) (m ((c : Thread nD τ).loc main_arg18)) (m ((c : Thread nD τ).loc main_arg19)) P X := by
  obtain ⟨hp, h0, h2, h3, h4, h5, h6, h7, h8, h9, h10, h11, h12, h13, h14, h15, h16, h17, h18, h19⟩ := h c
  dsimp only [fn, fn_part1, fn_part2, fn_part3] at hp
  refine ⟨weights (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16))
      (m ((c : Thread nD τ).loc main_arg17)) (m ((c : Thread nD τ).loc main_arg18)) (m ((c : Thread nD τ).loc main_arg19)),
    fun b r i => ((m ((c : Thread nD τ).loc main_arg0) : FVec Ideal KernelIdeal.S8x2048x5 .f32) (ix3 b r i)).toReal, ?_⟩
  exact {
    h0 := fun _ _ _ => real_of _ bcast_S_S8x2048x5 h0 _
    h2 := fun _ _ => real_of _ bcast_S_S5x64 h2 _
    h3 := fun _ => real_of _ bcast_S_S64 h3 _
    h4 := fun _ _ => real_of _ bcast_S_S64x64 h4 _
    h5 := fun _ => real_of _ bcast_S_S64 h5 _
    h6 := fun _ _ => real_of _ bcast_S_S64x64 h6 _
    h7 := fun _ => real_of _ bcast_S_S64 h7 _
    h8 := fun _ _ => real_of _ bcast_S_S64x64 h8 _
    h9 := fun _ => real_of _ bcast_S_S64 h9 _
    h10 := fun _ _ => real_of _ bcast_S_S64x64 h10 _
    h11 := fun _ => real_of _ bcast_S_S64 h11 _
    h12 := fun _ _ => real_of _ bcast_S_S64x32 h12 _
    h13 := fun _ => real_of _ bcast_S_S32 h13 _
    h14 := fun _ _ => real_of _ bcast_S_S32x1 h14 _
    h15 := fun _ => real_of _ bcast_S_S1 h15 _
    h16 := fun _ _ => real_of _ bcast_S_S64x32 h16 _
    h17 := fun _ => real_of _ bcast_S_S32 h17 _
    h18 := fun _ _ => real_of _ bcast_S_S32x1 h18 _
    h19 := fun _ => real_of _ bcast_S_S1 h19 _
    hp := present_of (m ((c : Thread nD τ).loc main_arg1)) hp }

end Cert.Pre

end
-- ==== Proof.lean ====
/-
  The certificate: the two kernel programs and the reference leave their arguments alone and end with every counter at
  zero; the named constants stand for the words they replace; and under the precondition the kernel's two result arrays
  are the reference's, entry by entry, as extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_some_tag_present_and_finite
public import proofs.«01_k».proof.Proof.Final
public import proofs.«01_k».proof.Proof.Reference
public import proofs.«01_k».proof.Proof.Pre
public import Idealize.ShloMosaic.Lib.Quiescent

@[expose] public section

set_option maxRecDepth 16384

noncomputable section

namespace Cert.Proof

open Idealize.ShloMosaic Idealize.ShloMosaic.TcCoe Idealize.SL.Sem

/-- The reference leaves its arguments alone and ends with every counter at zero. -/
theorem reference_frame : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Each named constant stands for the word it replaces. -/
theorem preserves : preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xCE6E6B28#32 ⊥ rfl⟩

/-- Under the precondition the kernel's two result arrays are the reference's. -/
theorem algebraic : algebraic_KernelIdeal_ReferenceIdeal_pre_some_tag_present_and_finite := by
  intro m ρ m' ρ' hpre hagree
  choose P X hreal using Pre.args_real m hpre
  refine ⟨fun c => Args.result0 (m ((c : Thread Cert.KernelIdeal.nD Cert.KernelIdeal.τ).loc Cert.KernelIdeal.main_arg1)) (P c) (X c)
        (m ((c : Thread Cert.KernelIdeal.nD Cert.KernelIdeal.τ).loc Cert.KernelIdeal.main_arg20))
        (m ((c : Thread Cert.KernelIdeal.nD Cert.KernelIdeal.τ).loc Cert.KernelIdeal.main_arg21)),
    fun c => Args.result1 (m ((c : Thread Cert.KernelIdeal.nD Cert.KernelIdeal.τ).loc Cert.KernelIdeal.main_arg1)) (P c) (X c)
        (m ((c : Thread Cert.KernelIdeal.nD Cert.KernelIdeal.τ).loc Cert.KernelIdeal.main_arg22))
        (m ((c : Thread Cert.KernelIdeal.nD Cert.KernelIdeal.τ).loc Cert.KernelIdeal.main_arg23)), ?_, ?_⟩
  · exact (θ_run Cert.KernelIdeal.defs _ _).mono
      (fun _ h c => ⟨(h c).1.trans (Final.final0 (hreal c)), (h c).2.1.trans (Final.final1 (hreal c)), (h c).2.2⟩)
      (Cert.KernelIdeal.Value.run_blocks (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22, h23⟩ := hagree c
    have hV : Reference.ArgsReal (StableHlo.launchContents m' c) (P c) (X c) := by
      have h := hreal c
      rw [← h0, ← h1, ← h2, ← h3, ← h4, ← h5, ← h6, ← h7, ← h8, ← h9, ← h10, ← h11, ← h12, ← h13, ← h14, ← h15,
        ← h16, ← h17, ← h18, ← h19] at h
      exact h
    refine ⟨(h c).1.trans ((Reference.result0_eq hV).trans ?_), (h c).2.1.trans ((Reference.result1_eq hV).trans ?_), (h c).2.2⟩
    · beta_reduce
      rw [← h1, ← h20, ← h21]
    · beta_reduce
      rw [← h1, ← h22, ← h23]

/-- The claim: three frames, the constants' meaning and the equality of results. -/
theorem claim : Cert.Claim :=
  ⟨Cert.Kernel.Gen.facts, Cert.KernelIdeal.Gen.facts, Cert.ReferenceIdeal.Gen.facts, Cert.Pre_some_tag_present_and_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserves, algebraic⟩

end Cert.Proof

end
